-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_bounded [hPre_gate_bounded : Cert.Pre_gate_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_gate_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_gate_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_gate_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_gate_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_gate_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_bounded [hPre_gate_bounded : Cert.Pre_gate_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_gate_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_gate_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_gate_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_gate_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gate_bounded [hKernelIdeal : Cert.KernelIdeal.Facts] [hPre_gate_bounded : Cert.Pre_gate_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gate_bounded [hReferenceIdeal : Cert.ReferenceIdeal.Facts] [hPre_gate_bounded : Cert.Pre_gate_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def preserves_Kernel_KernelIdeal : Prop :=
  IdealRules.named_const.Statement Cert.KernelIdeal.κ "gelu_cubic" .f32 0x3D122279#32 ((80338380498831 / 2251799813685248 : ℝ) : EReal)

def algebraic_KernelIdeal_ReferenceIdeal_pre_gate_bounded [hKernelIdeal : Cert.KernelIdeal.Facts] [hReferenceIdeal : Cert.ReferenceIdeal.Facts] [hPre_gate_bounded : Cert.Pre_gate_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hPre_gate_bounded : Cert.Pre_gate_bounded.Facts),
    quiescent_Kernel (hKernel := hKernel)
    ∧ quiescent_KernelIdeal (hKernelIdeal := hKernelIdeal)
    ∧ quiescent_KernelIdeal_pre_gate_bounded (hKernelIdeal := hKernelIdeal) (hPre_gate_bounded := hPre_gate_bounded)
    ∧ quiescent_ReferenceIdeal (hReferenceIdeal := hReferenceIdeal)
    ∧ quiescent_ReferenceIdeal_pre_gate_bounded (hReferenceIdeal := hReferenceIdeal) (hPre_gate_bounded := hPre_gate_bounded)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ preserves_Kernel_KernelIdeal
    ∧ algebraic_KernelIdeal_ReferenceIdeal_pre_gate_bounded (hKernelIdeal := hKernelIdeal) (hReferenceIdeal := hReferenceIdeal) (hPre_gate_bounded := hPre_gate_bounded)
    ∧ preserves_Kernel2_Kernel2Ideal
    ∧ algebraic_Kernel2Ideal_Reference2Ideal (hKernel2Ideal := hKernel2Ideal) (hReference2Ideal := hReference2Ideal)
    ∧ preserves_Kernel3_Kernel3Ideal
-- ==== Pre_gate_bounded.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2048 : Shape := ⟨2, ![32, 2048]⟩
abbrev S1024x2816 : Shape := ⟨2, ![1024, 2816]⟩
abbrev S3x2816 : Shape := ⟨2, ![3, 2816]⟩
abbrev S_ : Shape := ⟨0, ![]⟩
abbrev S2816 : Shape := ⟨1, ![2816]⟩

class Facts : Prop where
  slices_S32x6144_S32x2048_0_3072 : S32x6144.Slices ![0, 3072] S32x2048
  slices_S1024x5632_S1024x2816_0_0 : S1024x5632.Slices ![0, 0] S1024x2816
  slices_S3x5632_S3x2816_0_0 : S3x5632.Slices ![0, 0] S3x2816
  bcast_S_S32x2048 : S_.BroadcastsInDim S32x2048 (![] : Fin 0 → Fin S32x2048.rank)
  bcast_S_S1024 : S_.BroadcastsInDim S1024 (![] : Fin 0 → Fin S1024.rank)
  bcast_S_S1024x2816 : S_.BroadcastsInDim S1024x2816 (![] : Fin 0 → Fin S1024x2816.rank)
  bcast_S_S3x2816 : S_.BroadcastsInDim S3x2816 (![] : Fin 0 → Fin S3x2816.rank)
  slices_S5632_S2816_0 : S5632.Slices ![0] S2816
  bcast_S_S2816 : S_.BroadcastsInDim S2816 (![] : Fin 0 → Fin S2816.rank)

variable [Facts]

def fn {F : FTy → Type} [FloatOps F] (main_arg0 : FVec F S32x2048x1024 .f32) (main_arg1 : FVec F S32x6144 .f32) (main_arg2 : FVec F S1024 .f32) (main_arg3 : FVec F S1024x5632 .f32) (main_arg4 : FVec F S3x5632 .f32) (main_arg5 : FVec F S5632 .f32) (main_arg6 : FVec F S2816x1024 .f32) (main_arg7 : FVec F S1024 .f32) : IVec S32x2048 1 × IVec S1024 1 × IVec S1024x2816 1 × IVec S3x2816 1 × IVec S2816 1 :=
  let main_v0 : FVec F S32x2048 .f32 := (extractStridedSlice S32x2048 ![0, 3072] · slices_S32x6144_S32x2048_0_3072) main_arg1
  let main_v1 : FVec F S1024x2816 .f32 := (extractStridedSlice S1024x2816 ![0, 0] · slices_S1024x5632_S1024x2816_0_0) main_arg3
  let main_v2 : FVec F S3x2816 .f32 := (extractStridedSlice S3x2816 ![0, 0] · slices_S3x5632_S3x2816_0_0) main_arg4
  let main_v3 : FVec F S32x2048 .f32 := Host.absf main_v0
  let main_cst : FVec F S_ .f32 := constant S_ .f32 0x7F800000#32
  let main_v4 : FVec F S32x2048 .f32 := broadcastInDim S32x2048 ![] bcast_S_S32x2048 main_cst
  let main_v5 : IVec S32x2048 1 := cmpf .olt main_v3 main_v4
  let main_v6 : FVec F S1024 .f32 := Host.absf main_arg2
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_v9 : FVec F S1024x2816 .f32 := Host.absf main_v1
  let main_cst_1 : FVec F S_ .f32 := constant S_ .f32 0x7F800000#32
  let main_v10 : FVec F S1024x2816 .f32 := broadcastInDim S1024x2816 ![] bcast_S_S1024x2816 main_cst_1
  let main_v11 : IVec S1024x2816 1 := cmpf .olt main_v9 main_v10
  let main_v12 : FVec F S3x2816 .f32 := Host.absf main_v2
  let main_cst_2 : FVec F S_ .f32 := constant S_ .f32 0x7F800000#32
  let main_v13 : FVec F S3x2816 .f32 := broadcastInDim S3x2816 ![] bcast_S_S3x2816 main_cst_2
  let main_v14 : IVec S3x2816 1 := cmpf .olt main_v12 main_v13
  let main_v15 : FVec F S2816 .f32 := (extractStridedSlice S2816 ![0] · slices_S5632_S2816_0) main_arg5
  let main_cst_3 : FVec F S_ .f32 := constant S_ .f32 0xFF800000#32
  let main_v16 : FVec F S2816 .f32 := broadcastInDim S2816 ![] bcast_S_S2816 main_cst_3
  let main_v17 : IVec S2816 1 := cmpf .ogt main_v15 main_v16
  (main_v5, main_v8, main_v11, main_v14, main_v17)
-- ==== Kernel.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2816 : Shape := ⟨1, ![2816]⟩
abbrev S1x1024 : Shape := ⟨2, ![1, 1024]⟩
abbrev S1x5632 : Shape := ⟨2, ![1, 5632]⟩
abbrev S1x1024x1024 : Shape := ⟨3, ![1, 1024, 1024]⟩
abbrev S8x1088x128 : Shape := ⟨3, ![8, 1088, 128]⟩
abbrev S1024x1024 : Shape := ⟨2, ![1024, 1024]⟩
abbrev S4x1040x256 : Shape := ⟨3, ![4, 1040, 256]⟩
abbrev S11x2x16x256 : Shape := ⟨4, ![11, 2, 16, 256]⟩
abbrev S1024x2816 : Shape := ⟨2, ![1024, 2816]⟩
abbrev S1024x1 : Shape := ⟨2, ![1024, 1]⟩
abbrev S128x128 : Shape := ⟨2, ![128, 128]⟩
abbrev S1x128x128 : Shape := ⟨3, ![1, 128, 128]⟩
abbrev S1x8x128 : Shape := ⟨3, ![1, 8, 128]⟩
abbrev S8x128 : Shape := ⟨2, ![8, 128]⟩
abbrev S1024x128 : Shape := ⟨2, ![1024, 128]⟩
abbrev S8x256 : Shape := ⟨2, ![8, 256]⟩
abbrev S1024x256 : Shape := ⟨2, ![1024, 256]⟩
abbrev S1x1x16x256 : Shape := ⟨4, ![1, 1, 16, 256]⟩
abbrev S16x256 : Shape := ⟨2, ![16, 256]⟩
abbrev S1x8x256 : Shape := ⟨3, ![1, 8, 256]⟩
abbrev S1x1024x256 : Shape := ⟨3, ![1, 1024, 256]⟩
abbrev S3x256 : Shape := ⟨2, ![3, 256]⟩
abbrev S1x256 : Shape := ⟨2, ![1, 256]⟩

abbrev nBuf : Space → Nat
  | .hbm => 23
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S_, .f32⟩
  | .hbm, ⟨9, _⟩ => ⟨S2816, .f32⟩
  | .hbm, ⟨10, _⟩ => ⟨S_, .f32⟩
  | .hbm, ⟨11, _⟩ => ⟨S2816, .f32⟩
  | .hbm, ⟨12, _⟩ => ⟨S5632, .f32⟩
  | .hbm, ⟨13, _⟩ => ⟨S1x1024, .f32⟩
  | .hbm, ⟨14, _⟩ => ⟨S1024x5632, .bf16⟩
  | .hbm, ⟨15, _⟩ => ⟨S1x5632, .f32⟩
  | .hbm, ⟨16, _⟩ => ⟨S3x5632, .f32⟩
  | .hbm, ⟨17, _⟩ => ⟨S3x5632, .f32⟩
  | .hbm, ⟨18, _⟩ => ⟨S5632, .f32⟩
  | .hbm, ⟨19, _⟩ => ⟨S1x5632, .f32⟩
  | .hbm, ⟨20, _⟩ => ⟨S2816x1024, .bf16⟩
  | .hbm, ⟨21, _⟩ => ⟨S1x1024, .f32⟩
  | .hbm, ⟨22, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S32x6144, .f32⟩
  | .local _ .vmem, ⟨3, _⟩ => ⟨S1x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S8x1088x128, .f32⟩
  | .local _ .vmem, ⟨12, _⟩ => ⟨S1024x1024, .bf16⟩
  | .local _ .vmem, ⟨13, _⟩ => ⟨S4x1040x256, .f32⟩
  | .local _ .vmem, ⟨14, _⟩ => ⟨S11x2x16x256, .f32⟩
  | .local _ .vmem, ⟨15, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![32, 2], ![false, false]⟩

def k0_off1 (i : grid0.Coords) : Fin 2 → Nat :=
  let arg0 : BitVec 32 := BitVec.ofNat 32 (i 0).val
  let v17 : Index := Scalar.indexCast arg0
  let c4096 : Index := 4096#32
  ![v17.toNat, 4096]
def k0_off2 (i : grid0.Coords) : Fin 2 → Nat :=
  let arg0 : BitVec 32 := BitVec.ofNat 32 (i 0).val
  let v24 : Index := Scalar.indexCast arg0
  let c3072 : Index := 3072#32
  ![v24.toNat, 3072]
def k0_off3 (i : grid0.Coords) : Fin 2 → Nat :=
  let arg0 : BitVec 32 := BitVec.ofNat 32 (i 0).val
  let v3643 : Index := Scalar.indexCast arg0
  let c5120_3975 : Index := 5120#32
  ![v3643.toNat, 5120]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "gelu_cubic" => some ((80338380498831 / 2251799813685248 : ℝ) : EReal)
  | _ => none
-- ==== ReferenceIdeal.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x1024 : Shape := ⟨2, ![32, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩

abbrev nBuf : Space → Nat
  | .hbm => 110
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x2048x1024, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S1x1x1024, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x1x1024, .f32⟩
  | .hbm, ⟨38, _⟩ => ⟨S32x1x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x5632, .f32⟩
  | .hbm, ⟨44, _⟩ => ⟨S_, .i32⟩
  | .hbm, ⟨45, _⟩ => ⟨S_, .f32⟩
  | .hbm, ⟨46, _⟩ => ⟨S32x2050x5632, .f32⟩
  | .hbm, ⟨47, _⟩ => ⟨S32x2048x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S32x2048x5632, .f32⟩
  | .hbm, ⟨52, _⟩ => ⟨S32x2048x5632, .f32⟩
  | .hbm, ⟨53, _⟩ => ⟨S32x2048x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S32x2048x5632, .f32⟩
  | .hbm, ⟨58, _⟩ => ⟨S32x2048x5632, .f32⟩
  | .hbm, ⟨59, _⟩ => ⟨S32x2048x5632, .f32⟩
  | .hbm, ⟨60, _⟩ => ⟨S32x2048x5632, .f32⟩
  | .hbm, ⟨61, _⟩ => ⟨S1x5632, .f32⟩
  | .hbm, ⟨62, _⟩ => ⟨S5632, .f32⟩
  | .hbm, ⟨63, _⟩ => ⟨S1x1x5632, .f32⟩
  | .hbm, ⟨64, _⟩ => ⟨S32x2048x5632, .f32⟩
  | .hbm, ⟨65, _⟩ => ⟨S32x2048x5632, .f32⟩
  | .hbm, ⟨66, _⟩ => ⟨S32x2048x5632, .f32⟩
  | .hbm, ⟨67, _⟩ => ⟨S1x1x5632, .f32⟩
  | .hbm, ⟨68, _⟩ => ⟨S32x2048x5632, .f32⟩
  | .hbm, ⟨69, _⟩ => ⟨S32x2048x5632, .f32⟩
  | .hbm, ⟨70, _⟩ => ⟨S32x2048x2816, .f32⟩
  | .hbm, ⟨71, _⟩ => ⟨S32x2048x2816, .f32⟩
  | .hbm, ⟨72, _⟩ => ⟨S32x2048x2816, .f32⟩
  | .hbm, ⟨73, _⟩ => ⟨S32x2048x2816, .f32⟩
  | .hbm, ⟨74, _⟩ => ⟨S_, .f32⟩
  | .hbm, ⟨75, _⟩ => ⟨S32x2048x2816, .f32⟩
  | .hbm, ⟨76, _⟩ => ⟨S32x2048x2816, .f32⟩
  | .hbm, ⟨77, _⟩ => ⟨S32x2048x2816, .f32⟩
  | .hbm, ⟨78, _⟩ => ⟨S_, .f32⟩
  | .hbm, ⟨79, _⟩ => ⟨S32x2048x2816, .f32⟩
  | .hbm, ⟨80, _⟩ => ⟨S32x2048x2816, .f32⟩
  | .hbm, ⟨81, _⟩ => ⟨S32x2048x2816, .f32⟩
  | .hbm, ⟨82, _⟩ => ⟨S_, .f32⟩
  | .hbm, ⟨83, _⟩ => ⟨S32x2048x2816, .f32⟩
  | .hbm, ⟨84, _⟩ => ⟨S32x2048x2816, .f32⟩
  | .hbm, ⟨85, _⟩ => ⟨S_, .f32⟩
  | .hbm, ⟨86, _⟩ => ⟨S32x2048x2816, .f32⟩
  | .hbm, ⟨87, _⟩ => ⟨S32x2048x2816, .f32⟩
  | .hbm, ⟨88, _⟩ => ⟨S32x2048x2816, .f32⟩
  | .hbm, ⟨89, _⟩ => ⟨S32x2048x2816, .f32⟩
  | .hbm, ⟨90, _⟩ => ⟨S32x2048x1024, .f32⟩
  | .hbm, ⟨91, _⟩ => ⟨S32x2048x1024, .f32⟩
  | .hbm, ⟨92, _⟩ => ⟨S_, .f32⟩
  | .hbm, ⟨93, _⟩ => ⟨S32x2048, .f32⟩
  | .hbm, ⟨94, _⟩ => ⟨S32x2048x1, .f32⟩
  | .hbm, ⟨95, _⟩ => ⟨S_, .f32⟩
  | .hbm, ⟨96, _⟩ => ⟨S32x2048x1, .f32⟩
  | .hbm, ⟨97, _⟩ => ⟨S32x2048x1, .f32⟩
  | .hbm, ⟨98, _⟩ => ⟨S_, .f32⟩
  | .hbm, ⟨99, _⟩ => ⟨S32x2048x1, .f32⟩
  | .hbm, ⟨100, _⟩ => ⟨S32x2048x1, .f32⟩
  | .hbm, ⟨101, _⟩ => ⟨S32x2048x1, .f32⟩
  | .hbm, ⟨102, _⟩ => ⟨S32x2048x1024, .f32⟩
  | .hbm, ⟨103, _⟩ => ⟨S32x2048x1024, .f32⟩
  | .hbm, ⟨104, _⟩ => ⟨S1x1x1024, .f32⟩
  | .hbm, ⟨105, _⟩ => ⟨S32x2048x1024, .f32⟩
  | .hbm, ⟨106, _⟩ => ⟨S32x2048x1024, .f32⟩
  | .hbm, ⟨107, _⟩ => ⟨S32x2048x1024, .f32⟩
  | .hbm, ⟨108, _⟩ => ⟨S32x2048x1024, .f32⟩
  | .hbm, ⟨109, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_3 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_4 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_5 : Ref sig .tc := ⟨.hbm, 82, rfl⟩
abbrev main_v66 : Ref sig .tc := ⟨.hbm, 83, rfl⟩
abbrev main_v67 : Ref sig .tc := ⟨.hbm, 84, rfl⟩
abbrev main_cst_6 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_7 : Ref sig .tc := ⟨.hbm, 92, rfl⟩
abbrev main_v74 : Ref sig .tc := ⟨.hbm, 93, rfl⟩
abbrev main_v75 : Ref sig .tc := ⟨.hbm, 94, rfl⟩
abbrev main_cst_8 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== Kernel2.lean ====
abbrev S32x1024 : Shape := ⟨2, ![32, 1024]⟩
abbrev S1024x6144 : Shape := ⟨2, ![1024, 6144]⟩
abbrev S6144 : Shape := ⟨1, ![6144]⟩
abbrev S1x6144 : Shape := ⟨2, ![1, 6144]⟩
abbrev S32x6144 : Shape := ⟨2, ![32, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S32x6144, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S32x6144 : Shape := ⟨2, ![32, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x6144, .f32⟩
  | .hbm, ⟨13, _⟩ => ⟨S1x6144, .f32⟩
  | .hbm, ⟨14, _⟩ => ⟨S32x6144, .f32⟩
  | .hbm, ⟨15, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x6144 : Shape := ⟨2, ![32, 6144]⟩
abbrev S1024 : Shape := ⟨1, ![1024]⟩
abbrev S1024x2824 : Shape := ⟨2, ![1024, 2824]⟩
abbrev S4x1024 : Shape := ⟨2, ![4, 1024]⟩
abbrev S4 : Shape := ⟨1, ![4]⟩
abbrev S4x128 : Shape := ⟨2, ![4, 128]⟩
abbrev S8 : Shape := ⟨1, ![8]⟩
abbrev S512 : Shape := ⟨1, ![512]⟩
abbrev S1024x1024 : Shape := ⟨2, ![1024, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S1024x8 : Shape := ⟨2, ![1024, 8]⟩
abbrev S1024x128 : Shape := ⟨2, ![1024, 128]⟩
abbrev S1024x512 : Shape := ⟨2, ![1024, 512]⟩
abbrev S1024x4x2x2x32 : Shape := ⟨5, ![1024, 4, 2, 2, 32]⟩
abbrev S1024x2x2x1x32 : Shape := ⟨5, ![1024, 2, 2, 1, 32]⟩
abbrev S1024x2x2x2x32 : Shape := ⟨5, ![1024, 2, 2, 2, 32]⟩
abbrev S1024x256 : Shape := ⟨2, ![1024, 256]⟩
abbrev S1024x2x1x64 : Shape := ⟨4, ![1024, 2, 1, 64]⟩
abbrev S1024x2x2x64 : Shape := ⟨4, ![1024, 2, 2, 64]⟩
abbrev S1024x2048 : Shape := ⟨2, ![1024, 2048]⟩
abbrev S1024x3200 : Shape := ⟨2, ![1024, 3200]⟩
abbrev S120 : Shape := ⟨1, ![120]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S1x1024 : Shape := ⟨2, ![1, 1024]⟩
abbrev S1x512 : Shape := ⟨2, ![1, 512]⟩
abbrev S1x1024x1024 : Shape := ⟨3, ![1, 1024, 1024]⟩
abbrev S8x1024 : Shape := ⟨2, ![8, 1024]⟩
abbrev S8x4x128x128 : Shape := ⟨4, ![8, 4, 128, 128]⟩
abbrev S8x128x128 : Shape := ⟨3, ![8, 128, 128]⟩
abbrev S8x8x128 : Shape := ⟨3, ![8, 8, 128]⟩
abbrev S2x1152x128 : Shape := ⟨3, ![2, 1152, 128]⟩
abbrev S2x1152x256 : Shape := ⟨3, ![2, 1152, 256]⟩
abbrev S4x128x256 : Shape := ⟨3, ![4, 128, 256]⟩
abbrev S2x128x128 : Shape := ⟨3, ![2, 128, 128]⟩
abbrev S1x128x128 : Shape := ⟨3, ![1, 128, 128]⟩
abbrev S128x128 : Shape := ⟨2, ![128, 128]⟩
abbrev S1024x1 : Shape := ⟨2, ![1024, 1]⟩
abbrev S8x256 : Shape := ⟨2, ![8, 256]⟩
abbrev S1032x256 : Shape := ⟨2, ![1032, 256]⟩
abbrev S4x256 : Shape := ⟨2, ![4, 256]⟩
abbrev S1x256 : Shape := ⟨2, ![1, 256]⟩
abbrev S1x1x128x128 : Shape := ⟨4, ![1, 1, 128, 128]⟩
abbrev S1x8x128 : Shape := ⟨3, ![1, 8, 128]⟩
abbrev S1x1024x128 : Shape := ⟨3, ![1, 1024, 128]⟩
abbrev S1x1x128 : Shape := ⟨3, ![1, 1, 128]⟩
abbrev S1x1 : Shape := ⟨2, ![1, 1]⟩
abbrev S1 : Shape := ⟨1, ![1]⟩
abbrev S128x1 : Shape := ⟨2, ![128, 1]⟩
abbrev S128x256 : Shape := ⟨2, ![128, 256]⟩
abbrev S1x128x256 : Shape := ⟨3, ![1, 128, 256]⟩
abbrev S256x256 : Shape := ⟨2, ![256, 256]⟩
abbrev S1x128x1 : Shape := ⟨3, ![1, 128, 1]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512x1 : Shape := ⟨2, ![512, 1]⟩
abbrev S1x256x256 : Shape := ⟨3, ![1, 256, 256]⟩

abbrev nBuf : Space → Nat
  | .hbm => 71
  | .vmem => 34
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x2824, .f32⟩
  | .hbm, ⟨4, _⟩ => ⟨S4x1024, .f32⟩
  | .hbm, ⟨5, _⟩ => ⟨S1024, .f32⟩
  | .hbm, ⟨6, _⟩ => ⟨S4, .f32⟩
  | .hbm, ⟨7, _⟩ => ⟨S4, .f32⟩
  | .hbm, ⟨8, _⟩ => ⟨S4x128, .f32⟩
  | .hbm, ⟨9, _⟩ => ⟨S8, .f32⟩
  | .hbm, ⟨10, _⟩ => ⟨S512, .f32⟩
  | .hbm, ⟨11, _⟩ => ⟨S1024x1024, .f32⟩
  | .hbm, ⟨12, _⟩ => ⟨S1024, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048, .i32⟩
  | .hbm, ⟨22, _⟩ => ⟨S2048, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S1x2048x1x32, .f32⟩
  | .hbm, ⟨31, _⟩ => ⟨S1x2048x4x32, .f32⟩
  | .hbm, ⟨32, _⟩ => ⟨S2048x128, .f32⟩
  | .hbm, ⟨33, _⟩ => ⟨S2048x32, .f32⟩
  | .hbm, ⟨34, _⟩ => ⟨S2048x32, .f32⟩
  | .hbm, ⟨35, _⟩ => ⟨S2048x128, .f32⟩
  | .hbm, ⟨36, _⟩ => ⟨S1024x8, .f32⟩
  | .hbm, ⟨37, _⟩ => ⟨S_, .i32⟩
  | .hbm, ⟨38, _⟩ => ⟨S_, .f32⟩
  | .hbm, ⟨39, _⟩ => ⟨S1024x128, .f32⟩
  | .hbm, ⟨40, _⟩ => ⟨S1024x512, .f32⟩
  | .hbm, ⟨41, _⟩ => ⟨S1024x4x2x2x32, .f32⟩
  | .hbm, ⟨42, _⟩ => ⟨S1024x4x2x2x32, .f32⟩
  | .hbm, ⟨43, _⟩ => ⟨S1024x512, .f32⟩
  | .hbm, ⟨44, _⟩ => ⟨S1024x128, .f32⟩
  | .hbm, ⟨45, _⟩ => ⟨S1024x2x2x1x32, .f32⟩
  | .hbm, ⟨46, _⟩ => ⟨S1024x2x2x2x32, .f32⟩
  | .hbm, ⟨47, _⟩ => ⟨S1024x256, .f32⟩
  | .hbm, ⟨48, _⟩ => ⟨S1024x128, .f32⟩
  | .hbm, ⟨49, _⟩ => ⟨S1024x2x1x64, .f32⟩
  | .hbm, ⟨50, _⟩ => ⟨S1024x2x2x64, .f32⟩
  | .hbm, ⟨51, _⟩ => ⟨S1024x256, .f32⟩
  | .hbm, ⟨52, _⟩ => ⟨S1024x2048, .f32⟩
  | .hbm, ⟨53, _⟩ => ⟨S1024x3200, .f32⟩
  | .hbm, ⟨54, _⟩ => ⟨S1024x3200, .bf16⟩
  | .hbm, ⟨55, _⟩ => ⟨S_, .f32⟩
  | .hbm, ⟨56, _⟩ => ⟨S120, .f32⟩
  | .hbm, ⟨57, _⟩ => ⟨S128, .f32⟩
  | .hbm, ⟨58, _⟩ => ⟨S1x128, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8x1, .f32⟩
  | .hbm, ⟨63, _⟩ => ⟨S8x128, .f32⟩
  | .hbm, ⟨64, _⟩ => ⟨S1x1024, .f32⟩
  | .hbm, ⟨65, _⟩ => ⟨S1x1024, .f32⟩
  | .hbm, ⟨66, _⟩ => ⟨S1x512, .f32⟩
  | .hbm, ⟨67, _⟩ => ⟨S1x512, .f32⟩
  | .hbm, ⟨68, _⟩ => ⟨S1024x1024, .bf16⟩
  | .hbm, ⟨69, _⟩ => ⟨S1x1024, .f32⟩
  | .hbm, ⟨70, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S32x6144, .f32⟩
  | .local _ .vmem, ⟨3, _⟩ => ⟨S1x1024, .f32⟩
  | .local _ .vmem, ⟨4, _⟩ => ⟨S1024x3200, .bf16⟩
  | .local _ .vmem, ⟨5, _⟩ => ⟨S4x1024, .f32⟩
  | .local _ .vmem, ⟨6, _⟩ => ⟨S1x1024, .f32⟩
  | .local _ .vmem, ⟨7, _⟩ => ⟨S1x128, .f32⟩
  | .local _ .vmem, ⟨8, _⟩ => ⟨S1x512, .f32⟩
  | .local _ .vmem, ⟨9, _⟩ => ⟨S8x128, .f32⟩
  | .local _ .vmem, ⟨10, _⟩ => ⟨S1x512, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1024, .bf16⟩
  | .local _ .vmem, ⟨16, _⟩ => ⟨S1x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1024x1024, .bf16⟩
  | .local _ .vmem, ⟨20, _⟩ => ⟨S8x1024, .f32⟩
  | .local _ .vmem, ⟨21, _⟩ => ⟨S1024x512, .bf16⟩
  | .local _ .vmem, ⟨22, _⟩ => ⟨S8x4x128x128, .bf16⟩
  | .local _ .vmem, ⟨23, _⟩ => ⟨S1024x512, .bf16⟩
  | .local _ .vmem, ⟨24, _⟩ => ⟨S1024x512, .f32⟩
  | .local _ .vmem, ⟨25, _⟩ => ⟨S8x128x128, .f32⟩
  | .local _ .vmem, ⟨26, _⟩ => ⟨S8x8x128, .f32⟩
  | .local _ .vmem, ⟨27, _⟩ => ⟨S8x8x128, .f32⟩
  | .local _ .vmem, ⟨28, _⟩ => ⟨S1024x512, .bf16⟩
  | .local _ .vmem, ⟨29, _⟩ => ⟨S2x1152x128, .bf16⟩
  | .local _ .vmem, ⟨30, _⟩ => ⟨S2x1152x256, .bf16⟩
  | .local _ .vmem, ⟨31, _⟩ => ⟨S1024x1024, .bf16⟩
  | .local _ .vmem, ⟨32, _⟩ => ⟨S4x128x256, .f32⟩
  | .local _ .vmem, ⟨33, _⟩ => ⟨S8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_2 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_scratch11 : Ref sig .tc := ⟨.vmem, 30, rfl⟩
abbrev cc0_scratch12 : Ref sig .tc := ⟨.vmem, 31, rfl⟩
abbrev cc0_scratch13 : Ref sig .tc := ⟨.vmem, 32, rfl⟩
abbrev cc0_scratch14 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![32, 2], ![false, false]⟩

def k0_off1 (i : grid0.Coords) : Fin 2 → Nat :=
  let arg0 : BitVec 32 := BitVec.ofNat 32 (i 0).val
  let v20 : Index := Scalar.indexCast arg0
  let c1024 : Index := 1024#32
  ![v20.toNat, 1024]
def k0_off2 (i : grid0.Coords) : Fin 2 → Nat :=
  let arg0 : BitVec 32 := BitVec.ofNat 32 (i 0).val
  let v27 : Index := Scalar.indexCast arg0
  let c0_10 : Index := 0#32
  ![v27.toNat, 0]
def k0_off3 (i : grid0.Coords) : Fin 2 → Nat :=
  let arg0 : BitVec 32 := BitVec.ofNat 32 (i 0).val
  let v5800 : Index := Scalar.indexCast arg0
  let c2048_2446 : Index := 2048#32
  ![v5800.toNat, 2048]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Proof.Raw.lean ====
/-
  WHAT A GRID POINT'S STORES ARE, as recursive lists. The feed-forward kernel handles one batch row's 1024 tokens at a
  point. It lays the normalised rows out in a scratch of planes (eight planes of 128 columns, eight segments of 128 tokens,
  136 rows apart), reads them back in strides of 136 so that eight tokens of eight segments sit together, projects up in eleven pairs of
  256-column tiles, convolves, gates, projects down, and undoes the reordering through the same scratch.
-/
module
public import proofs.«01_k».proof.Proof.Gen.KernelIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.FFN
open Cert.KernelIdeal Cert.KernelIdeal.Gen Cert.KernelIdeal.Value Idealize.ShloMosaic Idealize.ShloMosaic.TcCoe

/-- Columns where gate or value tile `n` begins: tile `n / 2` of the gate half (`n` even) or the value half. -/
def colOf (n : ℕ) : ℕ := n % 22 % 2 * 2816 + 256 * (n % 22 / 2)

/-- A unit-stride box lies inside its shape. -/
abbrev Inb (s : Shape) (off size : Fin s.rank → ℕ) : Prop := ∀ a, off a + size a ≤ s.size a

theorem inbW (n : ℕ) : Inb S1024x5632 ![0, colOf n] S1024x256.size := by
  intro a; fin_cases a <;> simp [colOf, S1024x5632, S1024x256] <;> omega
theorem inbT (n : ℕ) : Inb S3x5632 ![0, colOf n] S3x256.size := by
  intro a; fin_cases a <;> simp [colOf, S3x5632, S3x256] <;> omega
theorem inbB (n : ℕ) : Inb S1x5632 ![0, colOf n] S1x256.size := by
  intro a; fin_cases a <;> simp [colOf, S1x5632, S1x256] <;> omega
theorem inbK (n : ℕ) : Inb S11x2x16x256 ![n % 22 / 2, n % 2, 0, 0] S1x1x16x256.size := by
  intro a; fin_cases a <;> simp [S11x2x16x256, S1x1x16x256] <;> omega
theorem inbP (n : ℕ) : Inb S8x1088x128 ![n % 64 / 8, 136 * (n % 8), 0] S1x128x128.size := by
  intro a; fin_cases a <;> simp [S8x1088x128, S1x128x128] <;> omega
theorem inbO (n : ℕ) : Inb S1x1024x1024 ![0, 128 * (n % 8), 128 * (n % 64 / 8)] S1x128x128.size := by
  intro a; fin_cases a <;> simp [S1x1024x1024, S1x128x128] <;> omega
theorem inbH (n : ℕ) : Inb S1024x1024 ![0, 128 * (n % 8)] S1024x128.size := by
  intro a; fin_cases a <;> simp [S1024x1024, S1024x128] <;> omega
theorem inbA (n : ℕ) : Inb S1024x2816 ![0, 256 * (n % 11)] S1024x256.size := by
  intro a; fin_cases a <;> simp [S1024x2816, S1024x256] <;> omega
theorem inbS (n : ℕ) : Inb S4x1040x256 ![n % 4, 16, 0] S1x1024x256.size := by
  intro a; fin_cases a <;> simp [S4x1040x256, S1x1024x256] <;> omega
theorem inbS1 (n : ℕ) : Inb S4x1040x256 ![n % 4, 8, 0] S1x1024x256.size := by
  intro a; fin_cases a <;> simp [S4x1040x256, S1x1024x256] <;> omega
theorem inbS0 (n : ℕ) : Inb S4x1040x256 ![n % 4, 0, 0] S1x1024x256.size := by
  intro a; fin_cases a <;> simp [S4x1040x256, S1x1024x256] <;> omega
theorem inbE1 (n : ℕ) : Inb S4x1040x256 ![n % 4, 8, 0] S1x8x256.size := by
  intro a; fin_cases a <;> simp [S4x1040x256, S1x8x256] <;> omega
theorem inbE0 (n : ℕ) : Inb S4x1040x256 ![n % 4, 0, 0] S1x8x256.size := by
  intro a; fin_cases a <;> simp [S4x1040x256, S1x8x256] <;> omega
theorem inbR (n : ℕ) (a : Fin 3) : (S1x8x128.size a = 0 ∨ (![n % 1024 / 128, n % 128, 0] : Fin 3 → ℕ) a + (![1, 136, 1] : Fin 3 → ℕ) a * (S1x8x128.size a - 1) < S8x1088x128.size a) := by
  fin_cases a <;> simp [S8x1088x128, S1x8x128] <;> omega
theorem slicesP (n : ℕ) : S1024x1024.Slices ![128 * (n % 8), 128 * (n % 64 / 8)] S128x128 := by
  refine ⟨rfl, fun a => ?_⟩; fin_cases a <;> simp [S1024x1024, S128x128] <;> omega
theorem slicesR (n : ℕ) : S1024x1024.Slices ![8 * (n % 128), 128 * (n % 1024 / 128)] S8x128 := by
  refine ⟨rfl, fun a => ?_⟩; fin_cases a <;> simp [S1024x1024, S8x128] <;> omega

/-- Eight rows of plane `n / 128`, 136 apart, from row `n % 128` on. -/
def strip (n : ℕ) : Rect S8x1088x128 where
  off := ![n % 1024 / 128, n % 128, 0]
  size := S1x8x128.size
  stride := ![1, 136, 1]
  inb := inbR n
  stride_pos := by decide

theorem concat_strips (f : Fin 128 → Vec Ideal S8x128 .f32) :
    Shape.Concatenates ((List.ofFn fun v : Fin 128 => (⟨S8x128, f v⟩ : (s : Shape) × Vec Ideal s .f32)).map (·.1)) S1024x128 0 := by
  rw [List.map_ofFn, show ((·.1) ∘ fun v : Fin 128 => (⟨S8x128, f v⟩ : (s : Shape) × Vec Ideal s .f32)) = fun _ => S8x128 from rfl,
    List.ofFn_const]
  decide +kernel

/-- What a point loads. -/
structure Ld where
  x : Vec Ideal S1x1024x1024 .f32
  gp : Vec Ideal S1x1024 .f32
  m4 : Vec Ideal S1x1024 .f32
  m3 : Vec Ideal S1x1024 .f32
  m5 : Vec Ideal S1x1024 .f32
  gq : Vec Ideal S1x1024 .f32
  W : ℕ → Vec Ideal S1024x256 .bf16
  T : ℕ → Vec Ideal S3x256 .f32
  B : ℕ → Vec Ideal S1x256 .f32
  wd : Vec Ideal S2816x1024 .bf16
  X : ℕ → Vec Ideal S1x128x128 .f32

abbrev Pcs (s : Shape) (e : EltTy) := List (View.Piece (Elt Ideal) s e)

/-- The rows stored plane by plane, segment by segment. -/
def slab1 (H : FVec Ideal S1024x1024 .f32) (n : ℕ) : Pcs S8x1088x128 .f32 :=
  Nat.rec (motive := fun _ => Pcs S8x1088x128 .f32) []
    (fun n L => ⟨Rect.unit ![n % 64 / 8, 136 * (n % 8), 0] S1x128x128.size (inbP n),
      shapeCast S1x128x128 (extractStridedSlice S128x128 ![128 * (n % 8), 128 * (n % 64 / 8)] H (slicesP n)) shapeCasts_S128x128_S1x128x128⟩ :: L) n

/-- One plane's columns with the tokens regrouped. -/
def hcol (H : FVec Ideal S1024x1024 .f32) (c : ℕ) : FVec Ideal S1024x128 .bf16 :=
  shapeCast S1024x128 (truncf .bf16 (concatenate S1024x128 0 (List.ofFn fun v : Fin 128 =>
    (⟨S8x128, shapeCast S8x128 (scM0_0.view.readCov (Val := Elt Ideal) (slab1 H 64) (strip (128 * c + v.val)).toLoadRect) shapeCasts_S1x8x128_S8x128⟩ : (s : Shape) × Vec Ideal s .f32))
    (concat_strips _)) bitsLt_bf16_f32) shapeCasts_S1024x128_S1024x128

def hcols (H : FVec Ideal S1024x1024 .f32) (n : ℕ) : Pcs S1024x1024 .bf16 :=
  Nat.rec (motive := fun _ => Pcs S1024x1024 .bf16) []
    (fun n L => ⟨Rect.unit ![0, 128 * (n % 8)] S1024x128.size (inbH n), hcol H n⟩ :: L) n

/-- The regrouped rows. -/
def hs (H : FVec Ideal S1024x1024 .f32) : FVec Ideal S1024x1024 .bf16 :=
  scM0_1.view.readCov (Val := Elt Ideal) (hcols H 8) (Rect.unit ![0, 0] S1024x1024.size inb_S1024x1024_S1024x1024_0_0).toLoadRect

def nrm (D : Ld) : FVec Ideal S1024x1024 .f32 := k0_pay3 D.x D.gp D.m4 D.m3

/-- Tile `n` of the up-projection. -/
def up (D : Ld) (n : ℕ) : FVec Ideal S1024x256 .f32 := k0_pay1045 (hs (nrm D)) (D.W n)

/-- The rows carried to the next point, tile by tile. -/
def carryL (D : Ld) (base : Pcs S11x2x16x256 .f32) (n : ℕ) : Pcs S11x2x16x256 .f32 :=
  Nat.rec (motive := fun _ => Pcs S11x2x16x256 .f32) base
    (fun n L => ⟨Rect.unit ![n % 22 / 2, n % 2, 0, 0] S1x1x16x256.size (inbK n), k0_pay1052 (up D n)⟩ :: L) n

/-- The staging slots' stores, tile by tile. -/
def stage (D : Ld) (C : ℕ → Vec Ideal S1x1x16x256 .f32) (n : ℕ) : Pcs S4x1040x256 .f32 :=
  Nat.rec (motive := fun _ => Pcs S4x1040x256 .f32) []
    (fun n L => ⟨Rect.unit ![n % 4, 16, 0] S1x1024x256.size (inbS n), k0_pay1051 (up D n)⟩ ::
      ⟨Rect.unit ![n % 4, 8, 0] S1x8x256.size (inbE1 n), k0_pay1050 k0_pay1044 (up D n) (C n)⟩ ::
      ⟨Rect.unit ![n % 4, 0, 0] S1x8x256.size (inbE0 n), k0_pay1049 k0_pay1044 (up D n) (C n)⟩ :: L) n

/-- Tile `n` convolved. -/
def conv (D : Ld) (C : ℕ → Vec Ideal S1x1x16x256 .f32) (n : ℕ) : FVec Ideal S1024x256 .f32 :=
  k0_pay1240 (up D n) (D.T n) (scM0_2.view.readCov (Val := Elt Ideal) (stage D C (n + 1)) (Rect.unit (s := S4x1040x256) ![n % 4, 8, 0] S1x1024x256.size (inbS1 n)).toLoadRect)
    (scM0_2.view.readCov (Val := Elt Ideal) (stage D C (n + 1)) (Rect.unit (s := S4x1040x256) ![n % 4, 0, 0] S1x1024x256.size (inbS0 n)).toLoadRect) (D.B n)

/-- Tile `j` gated. -/
def gated (D : Ld) (C : ℕ → Vec Ideal S1x1x16x256 .f32) (j : ℕ) : FVec Ideal S1024x256 .bf16 :=
  k0_pay1243 (conv D C (2 * j)) (conv D C (2 * j + 1)) (k0_pay1241 (conv D C (2 * j))) k0_pay1242

def gatedL (D : Ld) (C : ℕ → Vec Ideal S1x1x16x256 .f32) (n : ℕ) : Pcs S1024x2816 .bf16 :=
  Nat.rec (motive := fun _ => Pcs S1024x2816 .bf16) []
    (fun n L => ⟨Rect.unit ![0, 256 * (n % 11)] S1024x256.size (inbA n), gated D C n⟩ :: L) n

/-- The rows to add, regrouped order. -/
def delta (D : Ld) (C : ℕ → Vec Ideal S1x1x16x256 .f32) : FVec Ideal S1024x1024 .f32 :=
  k0_pay1244 (scM0_4.view.readCov (Val := Elt Ideal) (gatedL D C 11) (Rect.unit ![0, 0] S1024x2816.size inb_S1024x2816_S1024x2816_0_0).toLoadRect) D.wd D.m5 D.gq

/-- Those rows stored back, eight at a time, over the first stores. -/
def slab2 (H E : FVec Ideal S1024x1024 .f32) (n : ℕ) : Pcs S8x1088x128 .f32 :=
  Nat.rec (motive := fun _ => Pcs S8x1088x128 .f32) (slab1 H 64)
    (fun n L => ⟨strip n, shapeCast S1x8x128 (extractStridedSlice S8x128 ![8 * (n % 128), 128 * (n % 1024 / 128)] E (slicesR n))
      shapeCasts_S8x128_S1x8x128⟩ :: L) n

/-- The result's tiles. -/
def outL (D : Ld) (C : ℕ → Vec Ideal S1x1x16x256 .f32) (n : ℕ) : Pcs S1x1024x1024 .f32 :=
  Nat.rec (motive := fun _ => Pcs S1x1024x1024 .f32) []
    (fun n L => ⟨Rect.unit ![0, 128 * (n % 8), 128 * (n % 64 / 8)] S1x128x128.size (inbO n),
      k0_pay1 (D.X n) (scM0_0.view.readCov (Val := Elt Ideal) (slab2 (nrm D) (delta D C) 1024)
        (Rect.unit (s := S8x1088x128) ![n % 64 / 8, 136 * (n % 8), 0] S1x128x128.size (inbP n)).toLoadRect)⟩ :: L) n

end Cert.FFN
end
-- ==== Proof.Words.lean ====
/-
  A GRID POINT'S WORDS. What a point loads from its blocks, by name, and what it is to start from carried rows of zeros or
  from the rows the point before left.
-/
module
public import proofs.«01_k».proof.Proof.Raw
@[expose] public section
set_option maxRecDepth 100000
noncomputable section
namespace Cert.FFN
open Cert.KernelIdeal Cert.KernelIdeal.Gen Cert.KernelIdeal.Value Idealize.ShloMosaic Idealize.ShloMosaic.TcCoe

/-- What point `t` loads from its blocks. -/
def ldOf (t : Fin cfg0.N) (x0 : Vec Ideal S1x1024x1024 .f32) (x1 : Vec Ideal S32x6144 .f32) (x2 : Vec Ideal S1x1024 .f32) (x3 : Vec Ideal S1024x5632 .bf16)
    (x4 : Vec Ideal S3x5632 .f32) (x5 : Vec Ideal S1x5632 .f32) (x6 : Vec Ideal S2816x1024 .bf16) (x7 : Vec Ideal S1x1024 .f32) : Ld where
  x := (ms0_0 t).view.readAt (Elt Ideal) (Rect.unit (s := S1x1024x1024) ![0, 0, 0] S1x1024x1024.size (by decide)).toLoadRect ((hs0_0 t).unread x0)
  gp := (ms0_2 t).view.readAt (Elt Ideal) (Rect.unit (s := S1x1024) ![0, 0] S1x1024.size (by decide)).toLoadRect ((hs0_2 t).unread x2)
  m4 := (ms0_1 t).view.readAt (Elt Ideal) (Rect.unit (s := S32x6144) (k0_off1 (grid0.coords t)) S1x1024.size (k0_off1_inb (grid0.coords t))).toLoadRect ((hs0_1 t).unread x1)
  m3 := (ms0_1 t).view.readAt (Elt Ideal) (Rect.unit (s := S32x6144) (k0_off2 (grid0.coords t)) S1x1024.size (k0_off2_inb (grid0.coords t))).toLoadRect ((hs0_1 t).unread x1)
  m5 := (ms0_1 t).view.readAt (Elt Ideal) (Rect.unit (s := S32x6144) (k0_off3 (grid0.coords t)) S1x1024.size (k0_off3_inb (grid0.coords t))).toLoadRect ((hs0_1 t).unread x1)
  gq := (ms0_7 t).view.readAt (Elt Ideal) (Rect.unit (s := S1x1024) ![0, 0] S1x1024.size (by decide)).toLoadRect ((hs0_7 t).unread x7)
  W n := (ms0_3 t).view.readAt (Elt Ideal) (Rect.unit (s := S1024x5632) ![0, colOf n] S1024x256.size (inbW n)).toLoadRect ((hs0_3 t).unread x3)
  T n := (ms0_4 t).view.readAt (Elt Ideal) (Rect.unit (s := S3x5632) ![0, colOf n] S3x256.size (inbT n)).toLoadRect ((hs0_4 t).unread x4)
  B n := (ms0_5 t).view.readAt (Elt Ideal) (Rect.unit (s := S1x5632) ![0, colOf n] S1x256.size (inbB n)).toLoadRect ((hs0_5 t).unread x5)
  wd := (ms0_6 t).view.readAt (Elt Ideal) (Rect.unit (s := S2816x1024) ![0, 0] S2816x1024.size (by decide)).toLoadRect ((hs0_6 t).unread x6)
  X n := (ms0_0 t).view.readAt (Elt Ideal) (Rect.unit (s := S1x1024x1024) ![0, 128 * (n % 8), 128 * (n % 64 / 8)] S1x128x128.size (inbO n)).toLoadRect ((hs0_0 t).unread x0)

/-- The carried rows point `t` finds. -/
def carryIn (X : Vec Ideal S11x2x16x256 .f32) (n : ℕ) : Vec Ideal S1x1x16x256 .f32 :=
  scM0_3.view.readAt (Elt Ideal) (Rect.unit (s := S11x2x16x256) ![n % 22 / 2, n % 2, 0, 0] S1x1x16x256.size (inbK n)).toLoadRect
    ((Memref.isWhole_whole cc0_scratch3 : scM0_3.IsWhole).unread X)

variable (c : Dev nD) (t : Fin cfg0.N) (x0 : Vec Ideal S1x1024x1024 .f32) (x1 : Vec Ideal S32x6144 .f32) (x2 : Vec Ideal S1x1024 .f32) (x3 : Vec Ideal S1024x5632 .bf16)
    (x4 : Vec Ideal S3x5632 .f32) (x5 : Vec Ideal S1x5632 .f32) (x6 : Vec Ideal S2816x1024 .bf16) (x7 : Vec Ideal S1x1024 .f32)

theorem carry_B (h) (X : Vec Ideal S11x2x16x256 .f32) :
    (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 x7 X).2.1
      = carryL (ldOf t x0 x1 x2 x3 x4 x5 x6 x7) [] 22 := by
  sl_kernel_rfl

/-- The carried rows the first point of a run finds: the zeros it has just stored. -/
def carryZero (D : Ld) (n : ℕ) : Vec Ideal S1x1x16x256 .f32 :=
  scM0_3.view.readCov (Val := Elt Ideal) (carryL D [⟨Rect.unit (s := S11x2x16x256) ![0, 0, 0, 0] S11x2x16x256.size (by decide), k0_pay2 (F := Ideal)⟩] n)
    (Rect.unit (s := S11x2x16x256) ![n % 22 / 2, n % 2, 0, 0] S1x1x16x256.size (inbK n)).toLoadRect

theorem carry_A (h) :
    (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 x7).2.1
      = carryL (ldOf t x0 x1 x2 x3 x4 x5 x6 x7) [⟨Rect.unit (s := S11x2x16x256) ![0, 0, 0, 0] S11x2x16x256.size (by decide), k0_pay2 (F := Ideal)⟩] 22 := by
  sl_kernel_rfl

end Cert.FFN
end
-- ==== Proof.WordsA.lean ====
/-
  A BATCH ROW'S FIRST POINT. It clears the carried rows; its output block and the rows it leaves are the lists of stores
  over zeros.
-/
module
public import proofs.«01_k».proof.Proof.Words
@[expose] public section
set_option maxRecDepth 100000
noncomputable section
namespace Cert.FFN
open Cert.KernelIdeal Cert.KernelIdeal.Gen Cert.KernelIdeal.Value Idealize.ShloMosaic Idealize.ShloMosaic.TcCoe
variable (c : Dev nD) (t : Fin cfg0.N) (x0 : Vec Ideal S1x1024x1024 .f32) (x1 : Vec Ideal S32x6144 .f32) (x2 : Vec Ideal S1x1024 .f32) (x3 : Vec Ideal S1024x5632 .bf16)
    (x4 : Vec Ideal S3x5632 .f32) (x5 : Vec Ideal S1x5632 .f32) (x6 : Vec Ideal S2816x1024 .bf16) (x7 : Vec Ideal S1x1024 .f32)

theorem out_A (h) :
    (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 x7).1
      = outL (ldOf t x0 x1 x2 x3 x4 x5 x6 x7) (carryZero (ldOf t x0 x1 x2 x3 x4 x5 x6 x7)) 64 := by
  sl_kernel_rfl

end Cert.FFN
end
-- ==== Proof.WordsB.lean ====
/-
  A BATCH ROW'S OTHER POINT. Its output block and the rows it leaves are the lists of stores over the rows it was given.
-/
module
public import proofs.«01_k».proof.Proof.Words
@[expose] public section
set_option maxRecDepth 100000
noncomputable section
namespace Cert.FFN
open Cert.KernelIdeal Cert.KernelIdeal.Gen Cert.KernelIdeal.Value Idealize.ShloMosaic Idealize.ShloMosaic.TcCoe
variable (c : Dev nD) (t : Fin cfg0.N) (x0 : Vec Ideal S1x1024x1024 .f32) (x1 : Vec Ideal S32x6144 .f32) (x2 : Vec Ideal S1x1024 .f32) (x3 : Vec Ideal S1024x5632 .bf16)
    (x4 : Vec Ideal S3x5632 .f32) (x5 : Vec Ideal S1x5632 .f32) (x6 : Vec Ideal S2816x1024 .bf16) (x7 : Vec Ideal S1x1024 .f32)

theorem out_B (h) (X : Vec Ideal S11x2x16x256 .f32) :
    (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h x0 x1 x2 x3 x4 x5 x6 x7 X).1
      = outL (ldOf t x0 x1 x2 x3 x4 x5 x6 x7) (carryIn X) 64 := by
  sl_kernel_rfl

end Cert.FFN
end
-- ==== Proof.Slab.lean ====
/-
  THE SCRATCH ARRAYS READ BACK. What the recursive lists of stores leave at an entry: the rows regrouped (row `p` of the
  regrouped order is token `128 (p mod 8) + p div 8`), the staging slots, the carried rows, the gated tiles and the result.
-/
module
public import proofs.«01_k».proof.Proof.Words
@[expose] public section
set_option maxRecDepth 16384
noncomputable section
namespace Cert.FFN
open Cert.KernelIdeal Cert.KernelIdeal.Gen Cert.KernelIdeal.Value Idealize.ShloMosaic Idealize.ShloMosaic.TcCoe

/-- Stores `f 0, …, f (n - 1)` over `base`, the newest first. -/
abbrev stack {s : Shape} {e : EltTy} (f : ℕ → View.Piece (Elt Ideal) s e) (base : Pcs s e) (n : ℕ) : Pcs s e :=
  Nat.rec (motive := fun _ => Pcs s e) base (fun n L => f n :: L) n

theorem emb_mem {s : Shape} (r : Rect s) (x : r.shape.Idx) : r.emb x ∈ r.set := by
  rw [← Rect.map_emb_univ]; exact Finset.mem_map.2 ⟨x, Finset.mem_univ _, rfl⟩

theorem mem_emb {s : Shape} (r : Rect s) {y : s.Idx} (h : y ∈ r.set) : ∃ x : r.shape.Idx, r.emb x = y := by
  rw [← Rect.map_emb_univ] at h
  obtain ⟨x, _, hx⟩ := Finset.mem_map.1 h
  exact ⟨x, hx⟩

/-- Where every store agrees with `G`, an entry some store reaches holds `G`'s. -/
theorem canon_stack {s : Shape} {e : EltTy} (f : ℕ → View.Piece (Elt Ideal) s e) (base : Pcs s e) (G : s.Idx → Elt Ideal e) (n : ℕ)
    (hG : ∀ k < n, ∀ x, (f k).2 x = G ((f k).1.emb x)) (y : s.Idx) (hy : ∃ k < n, ∃ x, (f k).1.emb x = y) :
    View.canon (stack f base n) y = G y := by
  induction n with
  | zero => obtain ⟨k, hk, _⟩ := hy; exact absurd hk (Nat.not_lt_zero k)
  | succ n ih =>
    by_cases hm : y ∈ (f n).1.set
    · obtain ⟨x, rfl⟩ := mem_emb _ hm
      exact (View.canon_cons_emb (f n).1 (f n).2 _ x).trans (hG n (Nat.lt_succ_self n) x)
    · refine (View.canon_cons_of_not_mem (f n) _ hm).trans (ih (fun k hk => hG k (Nat.lt_succ_of_lt hk)) ?_)
      obtain ⟨k, hk, x, hx⟩ := hy
      refine ⟨k, lt_of_le_of_ne (Nat.le_of_lt_succ hk) fun e => ?_, x, hx⟩
      subst e
      exact hm (hx ▸ emb_mem (f k).1 x)

/-- An entry no store reaches holds what was there. -/
theorem canon_stack_skip {s : Shape} {e : EltTy} (f : ℕ → View.Piece (Elt Ideal) s e) (base : Pcs s e) (n : ℕ) (y : s.Idx)
    (hy : ∀ k < n, ∀ x, (f k).1.emb x ≠ y) : View.canon (stack f base n) y = View.canon base y := by
  induction n with
  | zero => rfl
  | succ n ih =>
    refine (View.canon_cons_of_not_mem (f n) _ fun hm => ?_).trans (ih fun k hk => hy k (Nat.lt_succ_of_lt hk))
    obtain ⟨x, hx⟩ := mem_emb _ hm
    exact hy n (Nat.lt_succ_self n) x hx

/-- An entry of a matrix of 1024 rows and columns, by the numbers of its row and column. -/
def atNat (H : Vec Ideal S1024x1024 .f32) (r k : ℕ) : Elt Ideal .f32 :=
  H (ix2 (⟨r % 1024, Nat.mod_lt _ (by decide)⟩ : Fin 1024) (⟨k % 1024, Nat.mod_lt _ (by decide)⟩ : Fin 1024))

theorem atNat_of (H : Vec Ideal S1024x1024 .f32) (r k : Fin 1024) (a b : ℕ) (ha : a = r.val) (hb : b = k.val) : H (ix2 r k) = atNat H a b := by
  subst ha hb
  exact congrArg₂ (fun p q => H (ix2 p q)) (Fin.ext (Nat.mod_eq_of_lt r.isLt).symm) (Fin.ext (Nat.mod_eq_of_lt k.isLt).symm)

theorem slab1_pay (H : FVec Ideal S1024x1024 .f32) (n : ℕ) (x : S1x128x128.Idx) :
    shapeCast S1x128x128 (extractStridedSlice S128x128 ![128 * (n % 8), 128 * (n % 64 / 8)] H (slicesP n)) shapeCasts_S128x128_S1x128x128 x
      = atNat H (128 * (n % 8) + (x 1).val) (128 * (n % 64 / 8) + (x 2).val) := by
  have h1 : (x 1).val < 128 := (x 1).isLt
  have h2 : (x 2).val < 128 := (x 2).isLt
  obtain ⟨q, r, l, rfl⟩ : ∃ (q : Fin 1) (r l : Fin 128), x = ix3 q r l := ⟨x 0, x 1, x 2, by
    funext a; match a with | 0 => rfl | 1 => rfl | 2 => rfl⟩
  pointwise
  exact atNat_of H _ _ _ _ rfl rfl

theorem slab1_at (H : FVec Ideal S1024x1024 .f32) (y : S8x1088x128.Idx) (h : (y 1).val % 136 < 128) :
    View.canon (slab1 H 64) y = atNat H (128 * ((y 1).val / 136) + (y 1).val % 136) (128 * (y 0).val + (y 2).val) := by
  have h0 : (y 0).val < 8 := (y 0).isLt
  have h1 : (y 1).val < 1088 := (y 1).isLt
  have h2 : (y 2).val < 128 := (y 2).isLt
  refine canon_stack (s := S8x1088x128) (fun n => ⟨Rect.unit ![n % 64 / 8, 136 * (n % 8), 0] S1x128x128.size (inbP n),
      shapeCast S1x128x128 (extractStridedSlice S128x128 ![128 * (n % 8), 128 * (n % 64 / 8)] H (slicesP n)) shapeCasts_S128x128_S1x128x128⟩) []
    (fun y => atNat H (128 * ((y 1).val / 136) + (y 1).val % 136) (128 * (y 0).val + (y 2).val)) 64 (fun k hk x => ?_) y
    ⟨8 * (y 0).val + (y 1).val / 136, by omega, (ix3 (0 : Fin 1) (⟨(y 1).val % 136, h⟩ : Fin 128) (⟨(y 2).val, h2⟩ : Fin 128)), ?_⟩
  · have x0 : (x 0).val < 1 := (x 0).isLt
    have x1 : (x 1).val < 128 := (x 1).isLt
    have x2 : (x 2).val < 128 := (x 2).isLt
    refine (slab1_pay H k x).trans (congrArg₂ (atNat H) ?_ ?_)
    · show _ = 128 * ((136 * (k % 8) + 1 * (x 1).val) / 136) + (136 * (k % 8) + 1 * (x 1).val) % 136; omega
    · show _ = 128 * (k % 64 / 8 + 1 * (x 0).val) + (0 + 1 * (x 2).val); omega
  · funext a; apply Fin.ext
    match a with
    | 0 => show (8 * (y 0).val + (y 1).val / 136) % 64 / 8 + 1 * 0 = (y 0).val; omega
    | 1 => show 136 * ((8 * (y 0).val + (y 1).val / 136) % 8) + 1 * ((y 1).val % 136) = (y 1).val; omega
    | 2 => show 0 + 1 * (y 2).val = (y 2).val; omega

theorem strip_cast (X : Vec Ideal S1x8x128 .f32) (q : Fin 8) (l : Fin 128) :
    shapeCast S8x128 X shapeCasts_S1x8x128_S8x128 (ix2 q l) = X (ix3 (0 : Fin 1) q l) := by
  pointwise

theorem hcol_at (H : FVec Ideal S1024x1024 .f32) (c : ℕ) (hc : c < 8) (x : S1024x128.Idx) :
    hcol H c x = atNat H (128 * ((x 0).val % 8) + (x 0).val / 8) (128 * c + (x 1).val) := by
  have h0 : (x 0).val < 1024 := (x 0).isLt
  have h1 : (x 1).val < 128 := (x 1).isLt
  obtain ⟨p, l, rfl⟩ : ∃ (p : Fin 1024) (l : Fin 128), x = ix2 p l := ⟨x 0, x 1, by
    funext a; match a with | 0 => rfl | 1 => rfl⟩
  change p.val < 1024 at h0
  change l.val < 128 at h1
  unfold hcol
  rw [shapeCast_self]
  refine (concatenate_ofFn_apply (α := EReal) (t := S1024x128) (s₁ := S8x128) (0 : Fin 2) (fun v : Fin 128 => shapeCast S8x128 (scM0_0.view.readCov (Val := Elt Ideal) (slab1 H 64) (strip (128 * c + v.val)).toLoadRect) shapeCasts_S1x8x128_S8x128)
    (concat_strips _) rfl 8 rfl (ix2 p l) (⟨p.val / 8, by omega⟩ : Fin 128) rfl (ix2 (⟨p.val % 8, Nat.mod_lt _ (by decide)⟩ : Fin 8) l) rfl ?_).trans ?_
  · intro b hb
    match b with
    | 0 => exact absurd rfl hb
    | 1 => rfl
  · refine (strip_cast _ _ l).trans ?_
    rw [View.readCov_eq_canon']
    refine (slab1_at H _ ?_).trans (congrArg₂ (atNat H) ?_ ?_)
    · show ((128 * c + p.val / 8) % 128 + 136 * (p.val % 8)) % 136 < 128
      rw [Nat.add_mul_mod_self_left]
      exact lt_of_le_of_lt (Nat.mod_le _ _) (Nat.mod_lt _ (by decide))
    · show 128 * (((128 * c + p.val / 8) % 128 + 136 * (p.val % 8)) / 136) + ((128 * c + p.val / 8) % 128 + 136 * (p.val % 8)) % 136 = 128 * (p.val % 8) + p.val / 8
      omega
    · show 128 * ((128 * c + p.val / 8) % 1024 / 128 + 1 * 0) + (0 + 1 * l.val) = 128 * c + l.val; omega

/-- The regrouped rows: row `p` is token `128 (p mod 8) + p div 8`. -/
theorem hs_at (H : FVec Ideal S1024x1024 .f32) (p k : Fin 1024) : hs H (ix2 p k) = atNat H (128 * (p.val % 8) + p.val / 8) k.val := by
  unfold hs
  rw [View.readCov_eq_canon']
  refine (canon_stack (s := S1024x1024) (fun n => ⟨Rect.unit ![0, 128 * (n % 8)] S1024x128.size (inbH n), hcol H n⟩) []
    (fun y => atNat H (128 * ((y 0).val % 8) + (y 0).val / 8) (y 1).val) 8 (fun j hj x => ?_) _
    ⟨k.val / 128, by omega, (ix2 p (⟨k.val % 128, Nat.mod_lt _ (by decide)⟩ : Fin 128)), ?_⟩).trans (congrArg₂ (atNat H) ?_ ?_)
  · have x0 : (x 0).val < 1024 := (x 0).isLt
    have x1 : (x 1).val < 128 := (x 1).isLt
    refine (hcol_at H j hj x).trans (congrArg₂ (atNat H) ?_ ?_)
    · show _ = 128 * ((0 + 1 * (x 0).val) % 8) + (0 + 1 * (x 0).val) / 8; rw [Nat.zero_add, Nat.one_mul]
    · show _ = 128 * (j % 8) + 1 * (x 1).val; omega
  · funext a; apply Fin.ext
    match a with
    | 0 => rfl
    | 1 => show 128 * (k.val / 128 % 8) + 1 * (k.val % 128) = 0 + 1 * k.val; omega
  · show 128 * ((0 + 1 * p.val) % 8) + (0 + 1 * p.val) / 8 = _; rw [Nat.zero_add, Nat.one_mul]
  · show 0 + 1 * k.val = _; omega

theorem slab2_pay (E : FVec Ideal S1024x1024 .f32) (n : ℕ) (x : S1x8x128.Idx) :
    shapeCast S1x8x128 (extractStridedSlice S8x128 ![8 * (n % 128), 128 * (n % 1024 / 128)] E (slicesR n)) shapeCasts_S8x128_S1x8x128 x
      = atNat E (8 * (n % 128) + (x 1).val) (128 * (n % 1024 / 128) + (x 2).val) := by
  have h1 : (x 1).val < 8 := (x 1).isLt
  have h2 : (x 2).val < 128 := (x 2).isLt
  obtain ⟨q, r, l, rfl⟩ : ∃ (q : Fin 1) (r : Fin 8) (l : Fin 128), x = ix3 q r l := ⟨x 0, x 1, x 2, by
    funext a; match a with | 0 => rfl | 1 => rfl | 2 => rfl⟩
  pointwise
  exact atNat_of E _ _ _ _ rfl rfl

/-- The scratch after the second stores: an entry of a token's row is the regrouped rows' entry for it. -/
theorem slab2_at (H E : FVec Ideal S1024x1024 .f32) (y : S8x1088x128.Idx) (h : (y 1).val % 136 < 128) :
    View.canon (slab2 H E 1024) y = atNat E (8 * ((y 1).val % 136) + (y 1).val / 136) (128 * (y 0).val + (y 2).val) := by
  have h0 : (y 0).val < 8 := (y 0).isLt
  have h1 : (y 1).val < 1088 := (y 1).isLt
  have h2 : (y 2).val < 128 := (y 2).isLt
  refine canon_stack (s := S8x1088x128) (fun n => ⟨strip n, shapeCast S1x8x128 (extractStridedSlice S8x128 ![8 * (n % 128), 128 * (n % 1024 / 128)] E (slicesR n))
      shapeCasts_S8x128_S1x8x128⟩) (slab1 H 64)
    (fun y => atNat E (8 * ((y 1).val % 136) + (y 1).val / 136) (128 * (y 0).val + (y 2).val)) 1024 (fun k hk x => ?_) y
    ⟨128 * (y 0).val + (y 1).val % 136, by omega, (ix3 (0 : Fin 1) (⟨(y 1).val / 136, by omega⟩ : Fin 8) (⟨(y 2).val, h2⟩ : Fin 128)), ?_⟩
  · have x0 : (x 0).val < 1 := (x 0).isLt
    have x1 : (x 1).val < 8 := (x 1).isLt
    have x2 : (x 2).val < 128 := (x 2).isLt
    refine (slab2_pay E k x).trans (congrArg₂ (atNat E) ?_ ?_)
    · show _ = 8 * ((k % 128 + 136 * (x 1).val) % 136) + (k % 128 + 136 * (x 1).val) / 136; omega
    · show _ = 128 * (k % 1024 / 128 + 1 * (x 0).val) + (0 + 1 * (x 2).val); omega
  · funext a; apply Fin.ext
    match a with
    | 0 => show (128 * (y 0).val + (y 1).val % 136) % 1024 / 128 + 1 * 0 = (y 0).val; omega
    | 1 => show (128 * (y 0).val + (y 1).val % 136) % 128 + 136 * ((y 1).val / 136) = (y 1).val; omega
    | 2 => show 0 + 1 * (y 2).val = (y 2).val; omega

end Cert.FFN
end
-- ==== Proof.Spec.lean ====
/-
  WHAT IS COMPUTED, OVER THE EXTENDED REALS. The feed-forward half of the layer, one entry at a time: a token's features
  scaled by the reciprocal root of their mean square and modulated; the up-projection; the causal convolution of three
  taps along the tokens; the gated activation; the down-projection; its scaled rows, gated, on top of the input.
-/
module
public import Idealize.ShloMosaic.Lib.Pointwise
@[expose] public section
noncomputable section
namespace Cert.FFN
open Idealize.ShloMosaic

/-- The reciprocal root of a row's mean square, a small number added. -/
def rinv (f : Fin 1024 → EReal) : EReal :=
  Ideal.rsqrt (Ideal.div (∑ k, f k * f k) (Ideal.ofBits FTy.f32 1149239296#32) + Ideal.ofBits FTy.f32 897988541#32)

/-- The smooth gate in its hyperbolic-tangent form. -/
def gelu (g : EReal) : EReal :=
  g * (Ideal.ofBits FTy.f32 1056964608#32 * (1 + Ideal.tanh (Ideal.ofBits FTy.f32 1061962282#32 *
    (g + Ideal.ofBits FTy.f32 1027024659#32 * (g * g * g)))))

/-- The eight arrays the layer's half takes. -/
structure Args where
  x : (⟨3, ![32, 2048, 1024]⟩ : Shape).Idx → EReal
  mod : (⟨2, ![32, 6144]⟩ : Shape).Idx → EReal
  pre : (⟨1, ![1024]⟩ : Shape).Idx → EReal
  up : (⟨2, ![1024, 5632]⟩ : Shape).Idx → EReal
  taps : (⟨2, ![3, 5632]⟩ : Shape).Idx → EReal
  bias : (⟨1, ![5632]⟩ : Shape).Idx → EReal
  down : (⟨2, ![2816, 1024]⟩ : Shape).Idx → EReal
  post : (⟨1, ![1024]⟩ : Shape).Idx → EReal

variable (A : Args)

/-- Feature `k` of part `p` of batch row `b`'s modulation. -/
def modAt (b : Fin 32) (p : Fin 6) (k : Fin 1024) : EReal := A.mod (ix2 b ⟨1024 * p.val + k.val, by omega⟩)

/-- The normalised and modulated token. -/
def hAt (b : Fin 32) (t : Fin 2048) (k : Fin 1024) : EReal :=
  A.x (ix3 b t k) * rinv (fun k => A.x (ix3 b t k)) * A.pre (ix1 k) * (1 + modAt A b 4 k) + modAt A b 3 k

/-- The up-projection. -/
def upAt (b : Fin 32) (t : Fin 2048) (n : Fin 5632) : EReal := ∑ k, hAt A b t k * A.up (ix2 k n)

/-- The up-projection `d` tokens ago, zero before the first token. -/
def past (b : Fin 32) (t : Fin 2048) (d : ℕ) (n : Fin 5632) : EReal :=
  if d ≤ t.val then upAt A b ⟨t.val - d, by omega⟩ n else 0

/-- The causal convolution's three taps and its bias. -/
def convAt (b : Fin 32) (t : Fin 2048) (n : Fin 5632) : EReal :=
  upAt A b t n * A.taps (ix2 2 n) + past A b t 1 n * A.taps (ix2 1 n) + past A b t 2 n * A.taps (ix2 0 n) + A.bias (ix1 n)

/-- The gated activation: the first 2816 columns gate the others. -/
def actAt (b : Fin 32) (t : Fin 2048) (n : Fin 2816) : EReal :=
  gelu (convAt A b t ⟨n.val, by omega⟩) * convAt A b t ⟨2816 + n.val, by omega⟩

/-- The down-projection. -/
def downAt (b : Fin 32) (t : Fin 2048) (k : Fin 1024) : EReal := ∑ n, actAt A b t n * A.down (ix2 n k)

/-- The result. -/
def outAt (b : Fin 32) (t : Fin 2048) (k : Fin 1024) : EReal :=
  A.x (ix3 b t k) + modAt A b 5 k * (downAt A b t k * rinv (downAt A b t) * A.post (ix1 k))

end Cert.FFN
-- ==== Proof.Gate.lean ====
/-
  THE ALGEBRA. The kernel halves the value columns' taps and biases beforehand, forms the hyperbolic tangent's argument as
  `g (c3 g² + c1)` and adds `g v tanh + g v`. Over real entries that is the layer's gate. With a gate column above −∞ and any
  value column the two are equal or both infinite, and a row over its root mean square doesn't tell infinite entries apart:
  with one among them, the row is zero.
-/
module
public import proofs.«01_k».proof.Proof.Spec
@[expose] public section
noncomputable section
namespace Cert.FFN
open Idealize.ShloMosaic

/-- A real entry. -/
def IsReal (x : EReal) : Prop := ∃ r : ℝ, x = (r : EReal)

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_zero : IsReal 0 := ⟨0, EReal.coe_zero.symm⟩
theorem isReal_one : IsReal 1 := ⟨1, EReal.coe_one.symm⟩

theorem isReal_sum {ι : Type} (s : Finset ι) (f : ι → EReal) (h : ∀ i, IsReal (f i)) : IsReal (∑ i ∈ s, f i) :=
  Finset.sum_induction f IsReal (fun _ _ => isReal_add) isReal_zero fun i _ => h i

theorem half_val : Ideal.ofBits FTy.f32 1056964608#32 = ((1 / 2 : ℝ) : EReal) := by
  simp [Ideal.ofBits, Ideal.ieee, -EReal.coe_mul]
  norm_num
theorem c1_val : Ideal.ofBits FTy.f32 1061962282#32 = ((6693141 / 8388608 : ℝ) : EReal) := by
  simp [Ideal.ofBits, Ideal.ieee, -EReal.coe_mul]
  norm_num
theorem k_val : Ideal.ofBits FTy.f32 1027024659#32 = ((12003091 / 268435456 : ℝ) : EReal) := by
  simp [Ideal.ofBits, Ideal.ieee, -EReal.coe_mul]
  norm_num
theorem eps_val : Ideal.ofBits FTy.f32 897988541#32 = ((8796093 / 8796093022208 : ℝ) : EReal) := by
  simp [Ideal.ofBits, Ideal.ieee, -EReal.coe_mul]
  norm_num
theorem d_val : Ideal.ofBits FTy.f32 1149239296#32 = ((1024 : ℝ) : EReal) := by
  simp [Ideal.ofBits, Ideal.ieee, -EReal.coe_mul]
  norm_num

theorem square_nonneg (x : EReal) : 0 ≤ x * x := by
  rcases le_total 0 x with h | h
  · exact EReal.mul_nonneg_iff.2 (Or.inl ⟨h, h⟩)
  · exact EReal.mul_nonneg_iff.2 (Or.inr ⟨h, h⟩)

theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- With an infinite entry the reciprocal root of a row's mean square is zero. -/
theorem rinv_zero {f : Fin 1024 → EReal} {j : Fin 1024} (hj : ¬ IsReal (f j)) : rinv f = 0 := by
  have ht : f j * f j = ⊤ := by
    rw [isReal_iff, not_and_or, not_not, not_not] at hj
    rcases hj with hj | hj <;> rw [hj]
    · exact EReal.top_mul_top
    · exact EReal.bot_mul_bot
  have hs : (∑ j, f j * f j) = ⊤ :=
    top_le_iff.1 (ht ▸ Finset.single_le_sum (f := fun j => f j * f j) (fun i _ => square_nonneg (f i)) (Finset.mem_univ j))
  unfold rinv
  rw [hs, d_val, eps_val]
  unfold Ideal.div
  rw [if_neg (by norm_num), ← EReal.coe_inv, EReal.top_mul_coe_of_pos (by norm_num), EReal.top_add_coe, Ideal.rsqrt_top]

/-- A row over its root mean square is real. -/
theorem normed_real (f : Fin 1024 → EReal) (k : Fin 1024) : IsReal (f k * rinv f) := by
  by_cases h : ∀ j, IsReal (f j)
  · choose g hg using h
    have e : f = fun j => ((g j : ℝ) : EReal) := funext hg
    have hs : (∑ j, f j * f j) = ((∑ j, g j * g j : ℝ) : EReal) := by
      rw [e]
      simp only [← EReal.coe_mul]
      exact (map_sum (⟨⟨Real.toEReal, EReal.coe_zero⟩, EReal.coe_add⟩ : ℝ →+ EReal) _ _).symm
    have hp : 0 ≤ ∑ j, g j * g j := Finset.sum_nonneg fun j _ => mul_self_nonneg _
    refine isReal_mul (hg k ▸ ⟨g k, rfl⟩) ?_
    unfold rinv
    rw [hs, d_val, eps_val]
    unfold Ideal.div
    rw [if_neg (by norm_num), ← EReal.coe_inv, ← EReal.coe_mul, ← EReal.coe_add, Ideal.rsqrt_coe]
    have : 0 < (∑ j, g j * g j) * (1024 : ℝ)⁻¹ + 8796093 / 8796093022208 := by positivity
    rw [if_neg (not_lt.2 this.le), if_neg this.ne']
    exact ⟨_, rfl⟩
  · push Not at h
    obtain ⟨j, hj⟩ := h
    rw [rinv_zero hj, mul_zero]
    exact isReal_zero

/-- The gate as the kernel forms it, from a gate column and a halved value column. -/
def gate (g v : EReal) : EReal :=
  g * v * Ideal.tanh (g * (((80338380498831 / 2251799813685248 : ℝ) : EReal) * (g * g) + Ideal.ofBits FTy.f32 1061962282#32)) + g * v

theorem one_val : (1 : EReal) = ((1 : ℝ) : EReal) := EReal.coe_one.symm

theorem gate_eq {g v : EReal} (hg : IsReal g) (hv : IsReal v) : gate g (v * Ideal.ofBits FTy.f32 1056964608#32) = gelu g * v := by
  obtain ⟨g, rfl⟩ := hg
  obtain ⟨v, rfl⟩ := hv
  unfold gate gelu
  rw [half_val, c1_val, k_val, one_val]
  simp only [← EReal.coe_mul, ← EReal.coe_add, Ideal.tanh_coe]
  refine congrArg Real.toEReal ?_
  rw [show g * (80338380498831 / 2251799813685248 * (g * g) + 6693141 / 8388608)
    = 6693141 / 8388608 * (g + 12003091 / 268435456 * (g * g * g)) by ring]
  ring

/-- Equal, or both infinite. -/
def Same (x y : EReal) : Prop := x = y ∨ ¬ IsReal x ∧ ¬ IsReal y

theorem same_of_eq {x y z w : EReal} (e : x = y) (h : Same y z) (e' : z = w) : Same x w := by
  subst e e'
  exact h

theorem isReal_of_add {x y : EReal} (h : IsReal (x + y)) : IsReal x ∧ IsReal y := by
  rw [isReal_iff] at h
  induction x <;> induction y <;> simp_all [isReal_iff]

theorem isReal_of_sum {ι : Type} [DecidableEq ι] (s : Finset ι) (f : ι → EReal) : IsReal (∑ i ∈ s, f i) → ∀ i ∈ s, IsReal (f i) := by
  induction s using Finset.induction_on with
  | empty => exact fun _ i hi => absurd hi (Finset.notMem_empty i)
  | insert a s ha ih =>
    intro h i hi
    rw [Finset.sum_insert ha] at h
    rcases Finset.mem_insert.1 hi with rfl | hi
    · exact (isReal_of_add h).1
    · exact ih (isReal_of_add h).2 i hi

theorem not_isReal_mul {x y : EReal} (hx : ¬ IsReal x) (hy : y ≠ 0) : ¬ IsReal (x * y) := by
  rw [isReal_iff, not_and_or, not_not, not_not] at *
  rcases lt_or_gt_of_ne hy with h | h <;> rcases hx with rfl | rfl
  · exact Or.inr (EReal.top_mul_of_neg h)
  · exact Or.inl (EReal.bot_mul_of_neg h)
  · exact Or.inl (EReal.top_mul_of_pos h)
  · exact Or.inr (EReal.bot_mul_of_pos h)

theorem same_mul {x y : EReal} (h : Same x y) (d : EReal) : Same (x * d) (y * d) := by
  rcases h with rfl | ⟨hx, hy⟩
  · exact Or.inl rfl
  · by_cases hd : d = 0
    · subst hd
      exact Or.inl (by rw [mul_zero, mul_zero])
    · exact Or.inr ⟨not_isReal_mul hx hd, not_isReal_mul hy hd⟩

theorem same_sum {n : ℕ} {f g : Fin n → EReal} (h : ∀ i, Same (f i) (g i)) : Same (∑ i, f i) (∑ i, g i) := by
  by_cases e : f = g
  · exact Or.inl (congrArg (fun f => ∑ i, f i) e)
  · obtain ⟨j, hj⟩ := Function.ne_iff.1 e
    rcases h j with h | ⟨hf, hg⟩
    · exact absurd h hj
    · exact Or.inr ⟨fun r => hf (isReal_of_sum _ _ r j (Finset.mem_univ j)), fun r => hg (isReal_of_sum _ _ r j (Finset.mem_univ j))⟩

/-- Products with equal factors, summed. -/
theorem same_dot {n : ℕ} {a b u v : Fin n → EReal} (h : ∀ i, Same (a i) (b i)) (e : ∀ i, u i = v i) : Same (∑ i, a i * u i) (∑ i, b i * v i) :=
  same_sum fun i => e i ▸ same_mul (h i) (u i)

/-- Rows that are the same up to infinite entries are the same over their root mean squares. -/
theorem same_normed {f g : Fin 1024 → EReal} (h : ∀ i, Same (f i) (g i)) (k : Fin 1024) : f k * rinv f = g k * rinv g := by
  by_cases e : f = g
  · rw [e]
  · obtain ⟨j, hj⟩ := Function.ne_iff.1 e
    rcases h j with h | ⟨hf, hg⟩
    · exact absurd h hj
    · rw [rinv_zero hf, rinv_zero hg, mul_zero, mul_zero]

/-- A positive factor leaves an infinite entry as it is. -/
theorem mul_half {v : EReal} (h : ¬ IsReal v) : v * Ideal.ofBits FTy.f32 1056964608#32 = v := by
  rw [isReal_iff, not_and_or, not_not, not_not] at h
  rw [half_val]
  rcases h with rfl | rfl
  · exact EReal.top_mul_coe_of_pos (by norm_num)
  · exact EReal.bot_mul_coe_of_pos (by norm_num)

theorem gelu_real (g : ℝ) : ∃ r : ℝ, gelu (g : EReal) = ((g * r : ℝ) : EReal) ∧ 0 < r := by
  unfold gelu
  rw [half_val, c1_val, k_val, one_val]
  simp only [← EReal.coe_mul, ← EReal.coe_add, Ideal.tanh_coe]
  refine ⟨_, rfl, ?_⟩
  have := Real.neg_one_lt_tanh (6693141 / 8388608 * (g + 12003091 / 268435456 * (g * g * g)))
  linarith

theorem gelu_top : gelu ⊤ = ⊤ := by
  unfold gelu
  rw [half_val, c1_val, k_val, EReal.top_mul_top, EReal.top_mul_top, EReal.coe_mul_top_of_pos (by norm_num), EReal.top_add_top,
    EReal.coe_mul_top_of_pos (by norm_num), Ideal.tanh_top, one_val, ← EReal.coe_add, ← EReal.coe_mul, EReal.top_mul_coe_of_pos (by norm_num)]

theorem top_mul_add (v : EReal) : (⊤ : EReal) * v + ⊤ * v = ⊤ * v := by
  rcases lt_trichotomy v 0 with h | h | h
  · rw [EReal.top_mul_of_neg h]; rfl
  · rw [h, mul_zero, add_zero]
  · rw [EReal.top_mul_of_pos h]; rfl

/-- The gate at plus infinity. -/
theorem gate_top (v : EReal) : gate ⊤ (v * Ideal.ofBits FTy.f32 1056964608#32) = gelu ⊤ * v := by
  have e : (⊤ : EReal) * (v * Ideal.ofBits FTy.f32 1056964608#32) = ⊤ * v := by
    rw [half_val, mul_left_comm, EReal.top_mul_coe_of_pos (by norm_num), mul_comm]
  unfold gate
  rw [gelu_top, e, c1_val, EReal.top_mul_top, EReal.coe_mul_top_of_pos (by norm_num), EReal.top_add_coe, EReal.top_mul_top, Ideal.tanh_top, mul_one]
  exact top_mul_add v

/-- With a gate column above minus infinity, the kernel's gate is the layer's or both are infinite. -/
theorem gate_same {g v : EReal} (hg : g ≠ ⊥) : Same (gate g (v * Ideal.ofBits FTy.f32 1056964608#32)) (gelu g * v) := by
  by_cases ht : g = ⊤
  · subst ht
    exact Or.inl (gate_top v)
  have hr : IsReal g := isReal_iff.2 ⟨ht, hg⟩
  by_cases hv : IsReal v
  · exact Or.inl (gate_eq hr hv)
  obtain ⟨g, rfl⟩ := hr
  obtain ⟨r, hr, h0⟩ := gelu_real g
  rw [mul_half hv, hr]
  by_cases hz : g = 0
  · subst hz
    exact Or.inl (by simp [gate])
  · refine Or.inr ⟨fun h => ?_, fun h => ?_⟩
    · refine not_isReal_mul (y := (g : EReal)) hv (by exact_mod_cast hz) ?_
      rw [mul_comm]
      exact (isReal_of_add h).2
    · refine not_isReal_mul (y := ((g * r : ℝ) : EReal)) hv (by exact_mod_cast mul_ne_zero hz h0.ne') ?_
      rw [mul_comm]
      exact h

end Cert.FFN
end
-- ==== Proof.Tiles.lean ====
/-
  A TILE'S VALUES AT AN ENTRY. The projection of a tile, its rows one and two tokens back (in the regrouped order: eight and
  sixteen rows up, the first rows from the segment before or from the carried rows), the gated tile, the scaled rows and the
  stored result; and the rows carried on.
-/
module
public import proofs.«01_k».proof.Proof.Slab
public import proofs.«01_k».proof.Proof.Gate
@[expose] public section
set_option maxRecDepth 16384
noncomputable section
namespace Cert.FFN
open Cert.KernelIdeal Cert.KernelIdeal.Gen Cert.KernelIdeal.Value Idealize.ShloMosaic Idealize.ShloMosaic.TcCoe

theorem pay3_at (x : Vec Ideal S1x1024x1024 .f32) (gp m4 m3 : Vec Ideal S1x1024 .f32) (r k : Fin 1024) :
    k0_pay3 x gp m4 m3 (ix2 r k)
      = x (ix3 (0 : Fin 1) r k) * rinv (fun k => x (ix3 (0 : Fin 1) r k)) * (gp (ix2 (0 : Fin 1) k) * (1 + m4 (ix2 (0 : Fin 1) k))) + m3 (ix2 (0 : Fin 1) k) := by
  unfold k0_pay3 rinv
  pointwise

theorem pay1045_at (h : Vec Ideal S1024x1024 .bf16) (w : Vec Ideal S1024x256 .bf16) (p : Fin 1024) (l : Fin 256) :
    k0_pay1045 h w (ix2 p l) = Finset.sum (M := EReal) Finset.univ fun k : Fin 1024 => h (ix2 p k) * w (ix2 k l) := by
  unfold k0_pay1045
  pointwise

theorem pay1051_at (u : FVec Ideal S1024x256 .f32) (p : Fin 1024) (l : Fin 256) : k0_pay1051 u (ix3 (0 : Fin 1) p l) = u (ix2 p l) := by
  unfold k0_pay1051
  pointwise

theorem pay1052_at (u : FVec Ideal S1024x256 .f32) (q : Fin 16) (l : Fin 256) :
    k0_pay1052 u (ix4 (0 : Fin 1) (0 : Fin 1) q l) = u (ix2 (⟨1008 + q.val, by omega⟩ : Fin 1024) l) := by
  unfold k0_pay1052
  pointwise

theorem first_at (q : Fin 8) (l : Fin 256) : k0_pay1044 (ix2 q l) = if q.val = 0 then 1#1 else 0#1 := by
  unfold k0_pay1044
  pointwise
  revert q
  decide +kernel

theorem rot_at (X : FVec Ideal S8x256 .f32) (q : Fin 8) (l : Fin 256) :
    dynamicRotate 0 1#32 none X rotates_S8x256_d0 (ix2 q l) = X (ix2 (⟨(q.val + 7) % 8, Nat.mod_lt _ (by decide)⟩ : Fin 8) l) := by
  pointwise
  rfl

/-- Eight rows, the first from `P`'s last, the others `X`'s one row up. -/
theorem rot_pair (P X : FVec Ideal S8x256 .f32) (q : Fin 8) (l : Fin 256) :
    shapeCast S1x8x256 (select k0_pay1044 (dynamicRotate 0 1#32 none P rotates_S8x256_d0) (dynamicRotate 0 1#32 none X rotates_S8x256_d0))
      shapeCasts_S8x256_S1x8x256 (ix3 (0 : Fin 1) q l)
      = if q.val = 0 then P (ix2 (7 : Fin 8) l) else X (ix2 (⟨q.val - 1, by omega⟩ : Fin 8) l) := by
  have h := first_at q l
  have hp := rot_at P q l
  have hx := rot_at X q l
  generalize k0_pay1044 = M at h ⊢
  generalize dynamicRotate 0 1#32 none P rotates_S8x256_d0 = P' at hp ⊢
  generalize dynamicRotate 0 1#32 none X rotates_S8x256_d0 = X' at hx ⊢
  pointwise
  rw [h, hp, hx]
  by_cases hq : q.val = 0
  · rw [if_pos hq, if_pos hq]
    refine congrArg (fun i : Fin 8 => P (ix2 i l)) (Fin.ext ?_)
    show (q.val + 7) % 8 = 7
    omega
  · rw [if_neg hq, if_neg hq]
    refine congrArg (fun i : Fin 8 => X (ix2 i l)) (Fin.ext ?_)
    show (q.val + 7) % 8 = q.val - 1
    omega

theorem pay1049_at (u : FVec Ideal S1024x256 .f32) (C : Vec Ideal S1x1x16x256 .f32) (q : Fin 8) (l : Fin 256) :
    k0_pay1049 k0_pay1044 u C (ix3 (0 : Fin 1) q l)
      = if q.val = 0 then C (ix4 (0 : Fin 1) (0 : Fin 1) (7 : Fin 16) l) else u (ix2 (⟨1007 + q.val, by omega⟩ : Fin 1024) l) := by
  unfold k0_pay1049 k0_pay1048
  refine (rot_pair _ _ q l).trans ?_
  by_cases hq : q.val = 0
  · rw [if_pos hq, if_pos hq]
    pointwise
  · rw [if_neg hq, if_neg hq]
    pointwise
    refine congrArg (fun i : Fin 1024 => u (ix2 i l)) (Fin.ext ?_)
    show 1008 + (q.val - 1) = 1007 + q.val
    omega

theorem pay1050_at (u : FVec Ideal S1024x256 .f32) (C : Vec Ideal S1x1x16x256 .f32) (q : Fin 8) (l : Fin 256) :
    k0_pay1050 k0_pay1044 u C (ix3 (0 : Fin 1) q l)
      = if q.val = 0 then C (ix4 (0 : Fin 1) (0 : Fin 1) (15 : Fin 16) l) else u (ix2 (⟨1015 + q.val, by omega⟩ : Fin 1024) l) := by
  unfold k0_pay1050 k0_pay1048
  refine (rot_pair _ _ q l).trans ?_
  by_cases hq : q.val = 0
  · rw [if_pos hq, if_pos hq]
    pointwise
  · rw [if_neg hq, if_neg hq]
    pointwise
    refine congrArg (fun i : Fin 1024 => u (ix2 i l)) (Fin.ext ?_)
    show 1016 + (q.val - 1) = 1015 + q.val
    omega

theorem pay1240_at (u : FVec Ideal S1024x256 .f32) (w : Vec Ideal S3x256 .f32) (A B : Vec Ideal S1x1024x256 .f32) (b : Vec Ideal S1x256 .f32)
    (p : Fin 1024) (l : Fin 256) :
    k0_pay1240 u w A B b (ix2 p l) = u (ix2 p l) * w (ix2 (2 : Fin 3) l) + A (ix3 (0 : Fin 1) p l) * w (ix2 (1 : Fin 3) l)
      + B (ix3 (0 : Fin 1) p l) * w (ix2 (0 : Fin 3) l) + b (ix2 (0 : Fin 1) l) := by
  unfold k0_pay1240
  pointwise

theorem pay1243_at (g v : FVec Ideal S1024x256 .f32) (p : Fin 1024) (l : Fin 256) :
    k0_pay1243 g v (k0_pay1241 g) k0_pay1242 (ix2 p l) = gate (g (ix2 p l)) (v (ix2 p l)) := by
  unfold k0_pay1243 k0_pay1241 k0_pay1242 gate
  pointwise
  rfl

theorem pay1244_at (a : Vec Ideal S1024x2816 .bf16) (w : Vec Ideal S2816x1024 .bf16) (m5 gq : Vec Ideal S1x1024 .f32) (p k : Fin 1024) :
    k0_pay1244 a w m5 gq (ix2 p k) = (Finset.sum (M := EReal) Finset.univ fun x : Fin 2816 => a (ix2 p x) * w (ix2 x k))
      * rinv (fun k => Finset.sum (M := EReal) Finset.univ fun x : Fin 2816 => a (ix2 p x) * w (ix2 x k))
      * (m5 (ix2 (0 : Fin 1) k) * gq (ix2 (0 : Fin 1) k)) := by
  unfold k0_pay1244 rinv
  pointwise

theorem pay1_at (X Y : Vec Ideal S1x128x128 .f32) (r l : Fin 128) :
    k0_pay1 X Y (ix3 (0 : Fin 1) r l) = X (ix3 (0 : Fin 1) r l) + Y (ix3 (0 : Fin 1) r l) := by
  unfold k0_pay1
  pointwise

theorem pay2_at (y : S11x2x16x256.Idx) : k0_pay2 (F := Ideal) y = (0 : EReal) := by
  unfold k0_pay2
  pointwise

/-- The staging slot of tile `n`, read at a row. -/
theorem stage_at (D : Ld) (C : ℕ → Vec Ideal S1x1x16x256 .f32) (n : ℕ) (r : Fin 1040) (l : Fin 256) :
    View.canon (stage D C (n + 1)) (ix3 (⟨n % 4, Nat.mod_lt _ (by decide)⟩ : Fin 4) r l)
      = if h : r.val < 8 then k0_pay1049 k0_pay1044 (up D n) (C n) (ix3 (0 : Fin 1) ⟨r.val, h⟩ l)
      else if h' : r.val < 16 then k0_pay1050 k0_pay1044 (up D n) (C n) (ix3 (0 : Fin 1) ⟨r.val - 8, by omega⟩ l)
      else k0_pay1051 (up D n) (ix3 (0 : Fin 1) ⟨r.val - 16, by omega⟩ l) := by
  by_cases h : r.val < 8
  · rw [dif_pos h]
    refine (View.canon_cons_of_not_mem _ _ fun hm => ?_).trans ((View.canon_cons_of_not_mem _ _ fun hm => ?_).trans ?_)
    · have := ((Rect.mem_set_unit (inb := inbS n)).1 hm 1).1; change 16 ≤ r.val at this; omega
    · have := ((Rect.mem_set_unit (inb := inbE1 n)).1 hm 1).1; change 8 ≤ r.val at this; omega
    · have e : (ix3 (⟨n % 4, Nat.mod_lt _ (by decide)⟩ : Fin 4) r l : S4x1040x256.Idx)
          = (Rect.unit (s := S4x1040x256) ![n % 4, 0, 0] S1x8x256.size (inbE0 n)).emb (show S1x8x256.Idx from ix3 (0 : Fin 1) ⟨r.val, h⟩ l) := by
        funext a; apply Fin.ext
        match a with
        | 0 => show n % 4 = n % 4 + 1 * 0; omega
        | 1 => show r.val = 0 + 1 * r.val; omega
        | 2 => show l.val = 0 + 1 * l.val; omega
      exact (congrArg (View.canon _) e).trans (View.canon_cons_emb _ _ _ _)
  · rw [dif_neg h]
    by_cases h' : r.val < 16
    · rw [dif_pos h']
      refine (View.canon_cons_of_not_mem _ _ fun hm => ?_).trans ?_
      · have := ((Rect.mem_set_unit (inb := inbS n)).1 hm 1).1; change 16 ≤ r.val at this; omega
      · have e : (ix3 (⟨n % 4, Nat.mod_lt _ (by decide)⟩ : Fin 4) r l : S4x1040x256.Idx)
            = (Rect.unit (s := S4x1040x256) ![n % 4, 8, 0] S1x8x256.size (inbE1 n)).emb (show S1x8x256.Idx from ix3 (0 : Fin 1) ⟨r.val - 8, by omega⟩ l) := by
          funext a; apply Fin.ext
          match a with
          | 0 => show n % 4 = n % 4 + 1 * 0; omega
          | 1 => show r.val = 8 + 1 * (r.val - 8); omega
          | 2 => show l.val = 0 + 1 * l.val; omega
        exact (congrArg (View.canon _) e).trans (View.canon_cons_emb _ _ _ _)
    · rw [dif_neg h']
      have e : (ix3 (⟨n % 4, Nat.mod_lt _ (by decide)⟩ : Fin 4) r l : S4x1040x256.Idx)
          = (Rect.unit (s := S4x1040x256) ![n % 4, 16, 0] S1x1024x256.size (inbS n)).emb (show S1x1024x256.Idx from ix3 (0 : Fin 1) ⟨r.val - 16, by omega⟩ l) := by
        funext a; apply Fin.ext
        match a with
        | 0 => show n % 4 = n % 4 + 1 * 0; omega
        | 1 => show r.val = 16 + 1 * (r.val - 16); omega
        | 2 => show l.val = 0 + 1 * l.val; omega
      exact (congrArg (View.canon _) e).trans (View.canon_cons_emb _ _ _ _)

/-- Tile `n` one token back: eight rows up. -/
def back1 (D : Ld) (C : ℕ → Vec Ideal S1x1x16x256 .f32) (n : ℕ) (p : Fin 1024) (l : Fin 256) : Elt Ideal .f32 :=
  if p.val = 0 then C n (ix4 (0 : Fin 1) (0 : Fin 1) (15 : Fin 16) l)
  else if h : p.val < 8 then up D n (ix2 (⟨1015 + p.val, by omega⟩ : Fin 1024) l)
  else up D n (ix2 (⟨p.val - 8, by omega⟩ : Fin 1024) l)

/-- Tile `n` two tokens back: sixteen rows up. -/
def back2 (D : Ld) (C : ℕ → Vec Ideal S1x1x16x256 .f32) (n : ℕ) (p : Fin 1024) (l : Fin 256) : Elt Ideal .f32 :=
  if p.val = 0 then C n (ix4 (0 : Fin 1) (0 : Fin 1) (7 : Fin 16) l)
  else if p.val = 8 then C n (ix4 (0 : Fin 1) (0 : Fin 1) (15 : Fin 16) l)
  else if h : p.val < 16 then up D n (ix2 (⟨1007 + p.val, by omega⟩ : Fin 1024) l)
  else up D n (ix2 (⟨p.val - 16, by omega⟩ : Fin 1024) l)

theorem read1 (D : Ld) (C : ℕ → Vec Ideal S1x1x16x256 .f32) (n : ℕ) (p : Fin 1024) (l : Fin 256) :
    scM0_2.view.readCov (Val := Elt Ideal) (stage D C (n + 1)) (Rect.unit (s := S4x1040x256) ![n % 4, 8, 0] S1x1024x256.size (inbS1 n)).toLoadRect (ix3 (0 : Fin 1) p l)
      = back1 D C n p l := by
  rw [View.readCov_eq_canon']
  have e : (Rect.unit (s := S4x1040x256) ![n % 4, 8, 0] S1x1024x256.size (inbS1 n)).toLoadRect.idx (ix3 (0 : Fin 1) p l)
      = ix3 (⟨n % 4, Nat.mod_lt _ (by decide)⟩ : Fin 4) (⟨8 + p.val, by omega⟩ : Fin 1040) l := by
    funext a; apply Fin.ext
    match a with
    | 0 => show n % 4 + 1 * 0 = n % 4; omega
    | 1 => show 8 + 1 * p.val = 8 + p.val; omega
    | 2 => show 0 + 1 * l.val = l.val; omega
  refine (congrArg (View.canon (stage D C (n + 1))) e).trans ((stage_at D C n _ l).trans ?_)
  unfold back1
  refine (dif_neg (show ¬ 8 + p.val < 8 by omega)).trans ?_
  by_cases h : p.val < 8
  · refine (dif_pos (show 8 + p.val < 16 by omega)).trans ((pay1050_at _ _ _ l).trans ?_)
    by_cases h0 : p.val = 0
    · rw [if_pos h0]
      exact if_pos (show 8 + p.val - 8 = 0 by omega)
    · rw [if_neg h0, dif_pos h]
      refine (if_neg (show ¬ 8 + p.val - 8 = 0 by omega)).trans ?_
      exact congrArg (fun i : Fin 1024 => up D n (ix2 i l)) (Fin.ext (by show 1015 + (8 + p.val - 8) = 1015 + p.val; omega))
  · rw [if_neg (by omega), dif_neg h]
    refine (dif_neg (show ¬ 8 + p.val < 16 by omega)).trans ((pay1051_at _ _ l).trans ?_)
    exact congrArg (fun i : Fin 1024 => up D n (ix2 i l)) (Fin.ext (by show 8 + p.val - 16 = p.val - 8; omega))

theorem read2 (D : Ld) (C : ℕ → Vec Ideal S1x1x16x256 .f32) (n : ℕ) (p : Fin 1024) (l : Fin 256) :
    scM0_2.view.readCov (Val := Elt Ideal) (stage D C (n + 1)) (Rect.unit (s := S4x1040x256) ![n % 4, 0, 0] S1x1024x256.size (inbS0 n)).toLoadRect (ix3 (0 : Fin 1) p l)
      = back2 D C n p l := by
  rw [View.readCov_eq_canon']
  have e : (Rect.unit (s := S4x1040x256) ![n % 4, 0, 0] S1x1024x256.size (inbS0 n)).toLoadRect.idx (ix3 (0 : Fin 1) p l)
      = ix3 (⟨n % 4, Nat.mod_lt _ (by decide)⟩ : Fin 4) (⟨p.val, by omega⟩ : Fin 1040) l := by
    funext a; apply Fin.ext
    match a with
    | 0 => show n % 4 + 1 * 0 = n % 4; omega
    | 1 => show 0 + 1 * p.val = p.val; omega
    | 2 => show 0 + 1 * l.val = l.val; omega
  refine (congrArg (View.canon (stage D C (n + 1))) e).trans ((stage_at D C n _ l).trans ?_)
  unfold back2
  by_cases h : p.val < 8
  · refine (dif_pos (show p.val < 8 from h)).trans ((pay1049_at _ _ _ l).trans ?_)
    by_cases h0 : p.val = 0
    · exact (if_pos (show p.val = 0 from h0)).trans (if_pos h0).symm
    · refine (if_neg (show ¬ p.val = 0 from h0)).trans ?_
      rw [if_neg h0, if_neg (show ¬ p.val = 8 by omega), dif_pos (show p.val < 16 by omega)]
  · rw [if_neg (by omega)]
    refine (dif_neg (show ¬ p.val < 8 from h)).trans ?_
    by_cases h' : p.val < 16
    · refine (dif_pos (show p.val < 16 from h')).trans ((pay1050_at _ _ _ l).trans ?_)
      by_cases h0 : p.val = 8
      · rw [if_pos h0]
        exact if_pos (show p.val - 8 = 0 by omega)
      · rw [if_neg h0, dif_pos h']
        refine (if_neg (show ¬ p.val - 8 = 0 by omega)).trans ?_
        exact congrArg (fun i : Fin 1024 => up D n (ix2 i l)) (Fin.ext (by show 1015 + (p.val - 8) = 1007 + p.val; omega))
    · refine (dif_neg (show ¬ p.val < 16 from h')).trans ?_
      refine (pay1051_at _ _ l).trans ?_
      rw [if_neg (show ¬ p.val = 8 by omega), dif_neg h']

theorem conv_at (D : Ld) (C : ℕ → Vec Ideal S1x1x16x256 .f32) (n : ℕ) (p : Fin 1024) (l : Fin 256) :
    conv D C n (ix2 p l) = up D n (ix2 p l) * D.T n (ix2 (2 : Fin 3) l) + back1 D C n p l * D.T n (ix2 (1 : Fin 3) l)
      + back2 D C n p l * D.T n (ix2 (0 : Fin 3) l) + D.B n (ix2 (0 : Fin 1) l) := by
  unfold conv
  refine (pay1240_at _ _ _ _ _ p l).trans ?_
  rw [read1, read2]

/-- Tiles of 256 columns, side by side. -/
theorem cat_read (P : ℕ → Vec Ideal S1024x256 .bf16) (p : Fin 1024) (n : Fin 2816) :
    scM0_4.view.readCov (Val := Elt Ideal) (stack (s := S1024x2816) (fun n => ⟨Rect.unit ![0, 256 * (n % 11)] S1024x256.size (inbA n), P n⟩) [] 11)
      (Rect.unit ![0, 0] S1024x2816.size inb_S1024x2816_S1024x2816_0_0).toLoadRect (ix2 p n)
      = P (n.val / 256) (ix2 p (⟨n.val % 256, Nat.mod_lt _ (by decide)⟩ : Fin 256)) := by
  rw [View.readCov_eq_canon']
  refine (canon_stack (s := S1024x2816) (fun n => ⟨Rect.unit ![0, 256 * (n % 11)] S1024x256.size (inbA n), P n⟩) []
    (fun y => P ((y 1).val / 256) (ix2 (⟨(y 0).val, (y 0).isLt⟩ : Fin 1024) (⟨(y 1).val % 256, Nat.mod_lt _ (by decide)⟩ : Fin 256))) 11 (fun j hj x => ?_) _
    ⟨n.val / 256, by omega, (ix2 p (⟨n.val % 256, Nat.mod_lt _ (by decide)⟩ : Fin 256)), ?_⟩).trans ?_
  · have x1 : (x 1).val < 256 := (x 1).isLt
    refine congrArg₂ (fun (j : ℕ) (y : S1024x256.Idx) => P j y) ?_ (funext fun a => Fin.ext ?_)
    · show j = (256 * (j % 11) + 1 * (x 1).val) / 256; omega
    · match a with
      | 0 => show (x 0).val = 0 + 1 * (x 0).val; omega
      | 1 => show (x 1).val = (256 * (j % 11) + 1 * (x 1).val) % 256; omega
  · funext a; apply Fin.ext
    match a with
    | 0 => rfl
    | 1 => show 256 * (n.val / 256 % 11) + 1 * (n.val % 256) = 0 + 1 * n.val; omega
  · refine congrArg₂ (fun (j : ℕ) (y : S1024x256.Idx) => P j y) ?_ (funext fun a => Fin.ext ?_)
    · show (0 + 1 * n.val) / 256 = _; omega
    · match a with
      | 0 => show 0 + 1 * p.val = p.val; omega
      | 1 => show (0 + 1 * n.val) % 256 = n.val % 256; omega

/-- The gated tiles side by side. -/
theorem act_read (D : Ld) (C : ℕ → Vec Ideal S1x1x16x256 .f32) (p : Fin 1024) (n : Fin 2816) :
    scM0_4.view.readCov (Val := Elt Ideal) (gatedL D C 11) (Rect.unit ![0, 0] S1024x2816.size inb_S1024x2816_S1024x2816_0_0).toLoadRect (ix2 p n)
      = gated D C (n.val / 256) (ix2 p (⟨n.val % 256, Nat.mod_lt _ (by decide)⟩ : Fin 256)) :=
  cat_read (gated D C) p n

theorem rows_read (P : ℕ → Vec Ideal S1x1x16x256 .f32) (base : Pcs S11x2x16x256 .f32) (j : Fin 11) (h : Fin 2) (q : Fin 16) (l : Fin 256) :
    View.canon (stack (s := S11x2x16x256) (fun n => ⟨Rect.unit (s := S11x2x16x256) ![n % 22 / 2, n % 2, 0, 0] S1x1x16x256.size (inbK n), P n⟩) base 22) (ix4 j h q l)
      = P (2 * j.val + h.val) (ix4 (0 : Fin 1) (0 : Fin 1) q l) := by
  refine (canon_stack (s := S11x2x16x256) (fun n => ⟨Rect.unit (s := S11x2x16x256) ![n % 22 / 2, n % 2, 0, 0] S1x1x16x256.size (inbK n), P n⟩) base
    (fun y => P (2 * (y 0).val + (y 1).val) (ix4 (0 : Fin 1) (0 : Fin 1) (⟨(y 2).val, (y 2).isLt⟩ : Fin 16) (⟨(y 3).val, (y 3).isLt⟩ : Fin 256))) 22
    (fun k hk x => ?_) _ ⟨2 * j.val + h.val, by omega, (ix4 (0 : Fin 1) (0 : Fin 1) q l), ?_⟩)
  · have x0 : (x 0).val < 1 := (x 0).isLt
    have x1 : (x 1).val < 1 := (x 1).isLt
    refine congrArg₂ (fun (j : ℕ) (y : S1x1x16x256.Idx) => P j y) ?_ (funext fun a => Fin.ext ?_)
    · show k = 2 * (k % 22 / 2 + 1 * (x 0).val) + (k % 2 + 1 * (x 1).val); omega
    · match a with
      | 0 => show (x 0).val = 0; omega
      | 1 => show (x 1).val = 0; omega
      | 2 => show (x 2).val = 0 + 1 * (x 2).val; omega
      | 3 => show (x 3).val = 0 + 1 * (x 3).val; omega
  · funext a; apply Fin.ext
    match a with
    | 0 => show (2 * j.val + h.val) % 22 / 2 + 1 * 0 = j.val; omega
    | 1 => show (2 * j.val + h.val) % 2 + 1 * 0 = h.val; omega
    | 2 => show 0 + 1 * q.val = q.val; omega
    | 3 => show 0 + 1 * l.val = l.val; omega

/-- The rows the point leaves for the next one, over whatever was there. -/
theorem carryL_at (D : Ld) (base : Pcs S11x2x16x256 .f32) (j : Fin 11) (h : Fin 2) (q : Fin 16) (l : Fin 256) :
    View.canon (carryL D base 22) (ix4 j h q l) = up D (2 * j.val + h.val) (ix2 (⟨1008 + q.val, by omega⟩ : Fin 1024) l) :=
  (rows_read (fun n => k0_pay1052 (up D n)) base j h q l).trans (pay1052_at _ q l)

theorem rows_skip (P : ℕ → Vec Ideal S1x1x16x256 .f32) (Z : Vec Ideal S11x2x16x256 .f32) (n : ℕ) (hn : n < 22) (q : Fin 16) (l : Fin 256) :
    scM0_3.view.readCov (Val := Elt Ideal) (stack (s := S11x2x16x256) (fun n => ⟨Rect.unit (s := S11x2x16x256) ![n % 22 / 2, n % 2, 0, 0] S1x1x16x256.size (inbK n), P n⟩)
        [⟨Rect.unit (s := S11x2x16x256) ![0, 0, 0, 0] S11x2x16x256.size (by decide), Z⟩] n)
      (Rect.unit (s := S11x2x16x256) ![n % 22 / 2, n % 2, 0, 0] S1x1x16x256.size (inbK n)).toLoadRect (ix4 (0 : Fin 1) (0 : Fin 1) q l)
      = Z (ix4 (⟨n / 2, by omega⟩ : Fin 11) (⟨n % 2, Nat.mod_lt _ (by decide)⟩ : Fin 2) q l) := by
  rw [View.readCov_eq_canon']
  refine (canon_stack_skip (s := S11x2x16x256) (fun n => ⟨Rect.unit (s := S11x2x16x256) ![n % 22 / 2, n % 2, 0, 0] S1x1x16x256.size (inbK n), P n⟩) _ n _
    fun k hk x hx => ?_).trans ?_
  · have x0 : (x 0).val < 1 := (x 0).isLt
    have x1 : (x 1).val < 1 := (x 1).isLt
    have h0 := congrArg Fin.val (congrFun hx 0)
    have h1 := congrArg Fin.val (congrFun hx 1)
    change k % 22 / 2 + 1 * (x 0).val = n % 22 / 2 + 1 * 0 at h0
    change k % 2 + 1 * (x 1).val = n % 2 + 1 * 0 at h1
    omega
  · have e : (Rect.unit (s := S11x2x16x256) ![n % 22 / 2, n % 2, 0, 0] S1x1x16x256.size (inbK n)).toLoadRect.idx (ix4 (0 : Fin 1) (0 : Fin 1) q l)
        = (Rect.unit (s := S11x2x16x256) ![0, 0, 0, 0] S11x2x16x256.size (by decide)).emb
          (ix4 (⟨n / 2, by omega⟩ : Fin 11) (⟨n % 2, Nat.mod_lt _ (by decide)⟩ : Fin 2) q l) := by
      funext a; apply Fin.ext
      match a with
      | 0 => show n % 22 / 2 + 1 * 0 = 0 + 1 * (n / 2); omega
      | 1 => show n % 2 + 1 * 0 = 0 + 1 * (n % 2); omega
      | 2 => show 0 + 1 * q.val = 0 + 1 * q.val; rfl
      | 3 => show 0 + 1 * l.val = 0 + 1 * l.val; rfl
    exact (congrArg (View.canon _) e).trans (View.canon_cons_emb _ _ _ _)

/-- Before a batch row's first point the carried rows are zeros. -/
theorem carryZero_at (D : Ld) (n : ℕ) (hn : n < 22) (q : Fin 16) (l : Fin 256) : carryZero D n (ix4 (0 : Fin 1) (0 : Fin 1) q l) = (0 : EReal) :=
  (rows_skip (fun n => k0_pay1052 (up D n)) _ n hn q l).trans (pay2_at _)

theorem tiles_read (P : ℕ → Vec Ideal S1x128x128 .f32) (r k : Fin 1024) :
    View.canon (stack (s := S1x1024x1024) (fun n => ⟨Rect.unit (s := S1x1024x1024) ![0, 128 * (n % 8), 128 * (n % 64 / 8)] S1x128x128.size (inbO n), P n⟩) [] 64) (ix3 (0 : Fin 1) r k)
      = P (8 * (k.val / 128) + r.val / 128) (ix3 (0 : Fin 1) (⟨r.val % 128, Nat.mod_lt _ (by decide)⟩ : Fin 128) (⟨k.val % 128, Nat.mod_lt _ (by decide)⟩ : Fin 128)) := by
  refine (canon_stack (s := S1x1024x1024) (fun n => ⟨Rect.unit (s := S1x1024x1024) ![0, 128 * (n % 8), 128 * (n % 64 / 8)] S1x128x128.size (inbO n), P n⟩) []
    (fun y => P (8 * ((y 2).val / 128) + (y 1).val / 128) (ix3 (0 : Fin 1) (⟨(y 1).val % 128, Nat.mod_lt _ (by decide)⟩ : Fin 128) (⟨(y 2).val % 128, Nat.mod_lt _ (by decide)⟩ : Fin 128))) 64
    (fun j hj x => ?_) _ ⟨8 * (k.val / 128) + r.val / 128, by omega, (ix3 (0 : Fin 1) (⟨r.val % 128, Nat.mod_lt _ (by decide)⟩ : Fin 128) (⟨k.val % 128, Nat.mod_lt _ (by decide)⟩ : Fin 128)), ?_⟩)
  · have x0 : (x 0).val < 1 := (x 0).isLt
    have x1 : (x 1).val < 128 := (x 1).isLt
    have x2 : (x 2).val < 128 := (x 2).isLt
    refine congrArg₂ (fun (j : ℕ) (y : S1x128x128.Idx) => P j y) ?_ (funext fun a => Fin.ext ?_)
    · show j = 8 * ((128 * (j % 64 / 8) + 1 * (x 2).val) / 128) + (128 * (j % 8) + 1 * (x 1).val) / 128; omega
    · match a with
      | 0 => show (x 0).val = 0; omega
      | 1 => show (x 1).val = (128 * (j % 8) + 1 * (x 1).val) % 128; omega
      | 2 => show (x 2).val = (128 * (j % 64 / 8) + 1 * (x 2).val) % 128; omega
  · funext a; apply Fin.ext
    match a with
    | 0 => rfl
    | 1 => show 128 * ((8 * (k.val / 128) + r.val / 128) % 8) + 1 * (r.val % 128) = r.val; omega
    | 2 => show 128 * ((8 * (k.val / 128) + r.val / 128) % 64 / 8) + 1 * (k.val % 128) = k.val; omega

theorem plane_read (H E : FVec Ideal S1024x1024 .f32) (n : ℕ) (r l : Fin 128) :
    scM0_0.view.readCov (Val := Elt Ideal) (slab2 H E 1024) (Rect.unit (s := S8x1088x128) ![n % 64 / 8, 136 * (n % 8), 0] S1x128x128.size (inbP n)).toLoadRect (ix3 (0 : Fin 1) r l)
      = atNat E (8 * r.val + n % 8) (128 * (n % 64 / 8) + l.val) := by
  rw [View.readCov_eq_canon']
  refine (slab2_at H E _ ?_).trans (congrArg₂ (atNat E) ?_ ?_)
  · show (136 * (n % 8) + 1 * r.val) % 136 < 128; omega
  · show 8 * ((136 * (n % 8) + 1 * r.val) % 136) + (136 * (n % 8) + 1 * r.val) / 136 = _; omega
  · show 128 * (n % 64 / 8 + 1 * 0) + (0 + 1 * l.val) = _; omega

/-- The stored result at a token and a feature. -/
theorem out_at (D : Ld) (C : ℕ → Vec Ideal S1x1x16x256 .f32) (r k : Fin 1024) :
    View.canon (outL D C 64) (ix3 (0 : Fin 1) r k) = D.X (8 * (k.val / 128) + r.val / 128) (ix3 (0 : Fin 1) (⟨r.val % 128, Nat.mod_lt _ (by decide)⟩ : Fin 128) (⟨k.val % 128, Nat.mod_lt _ (by decide)⟩ : Fin 128))
      + delta D C (ix2 (⟨8 * (r.val % 128) + r.val / 128, by omega⟩ : Fin 1024) k) := by
  refine (tiles_read (fun n => k0_pay1 (D.X n) (scM0_0.view.readCov (Val := Elt Ideal) (slab2 (nrm D) (delta D C) 1024)
        (Rect.unit (s := S8x1088x128) ![n % 64 / 8, 136 * (n % 8), 0] S1x128x128.size (inbP n)).toLoadRect)) r k).trans ((pay1_at _ _ _ _).trans ?_)
  refine congrArg (fun v : EReal => _ + v) ((plane_read _ _ _ _ _).trans (atNat_of _ _ _ _ _ ?_ ?_).symm)
  · show 8 * (r.val % 128) + (8 * (k.val / 128) + r.val / 128) % 8 = 8 * (r.val % 128) + r.val / 128; omega
  · show 128 * ((8 * (k.val / 128) + r.val / 128) % 64 / 8) + k.val % 128 = k.val; omega

end Cert.FFN
end
-- ==== Proof.Host.lean ====
/-
  THE ARRAYS THE KERNEL IS GIVEN. Before the call the value columns' taps and biases are halved (the gate columns' are
  multiplied by one); the other arrays only change shape or type. Here each array the call takes is read at an entry, then
  each window's block, then each of a point's loads.
-/
module
public import proofs.«01_k».proof.Proof.Words
public import proofs.«01_k».proof.Proof.Spec
public import proofs.«01_k».proof.Proof.Gate
public import Idealize.ShloMosaic.Lib.StableHlo.ReadAt
public import Idealize.ShloMosaic.Lib.Pipeline.ValueKit
public import Idealize.ShloMosaic.Lib.Pointwise
@[expose] public section
set_option maxRecDepth 16384
noncomputable section
namespace Cert.FFN
open Cert.KernelIdeal Cert.KernelIdeal.Gen Cert.KernelIdeal.Value Idealize.ShloMosaic Idealize.ShloMosaic.TcCoe

variable (m : (ℓ : Loc nD τ sig) → Buf (Elt Ideal) ℓ) (c : Dev nD)

/-- The kernel's arguments. -/
def kerArgs : Args where
  x := m (c, Proc.tc.devRef main_arg0)
  mod := m (c, Proc.tc.devRef main_arg1)
  pre := m (c, Proc.tc.devRef main_arg2)
  up := m (c, Proc.tc.devRef main_arg3)
  taps := m (c, Proc.tc.devRef main_arg4)
  bias := m (c, Proc.tc.devRef main_arg5)
  down := m (c, Proc.tc.devRef main_arg6)
  post := m (c, Proc.tc.devRef main_arg7)

theorem up_read (k : Fin 1024) (n : Fin 5632) : V m c main_v4 (ix2 k n) = (kerArgs m c).up (ix2 k n) := by
  unfold V
  after_reads_at
  rfl

/-- The factor of column `n`'s taps and bias: one for a gate column, a half for a value column. -/
def scaleOf (n : Fin 5632) : EReal := if n.val < 2816 then 1 else Ideal.ofBits FTy.f32 1056964608#32

theorem one_read (i : Fin 2816) : StableHlo.upto hostOps0 (fun b => m (c, b)) 4 (Proc.tc.devRef main_v0) (ix1 i) = (1 : EReal) := by
  after_reads_at

theorem half_read (i : Fin 2816) :
    StableHlo.upto hostOps0 (fun b => m (c, b)) 4 (Proc.tc.devRef main_v1) (ix1 i) = Ideal.ofBits FTy.f32 1056964608#32 := by
  after_reads_at

theorem taps_read (k : Fin 3) (n : Fin 5632) : V m c main_v7 (ix2 k n) = (kerArgs m c).taps (ix2 k n) * scaleOf n := by
  unfold V
  after_reads_at
  refine congrArg (fun u : EReal => (kerArgs m c).taps (ix2 k n) * u) ?_
  unfold scaleOf
  split_ifs
  all_goals first | exact one_read m c _ | exact half_read m c _ | contradiction

theorem bias_read (n : Fin 5632) : V m c main_v9 (ix2 (0 : Fin 1) n) = (kerArgs m c).bias (ix1 n) * scaleOf n := by
  unfold V
  after_reads_at
  refine congrArg (fun u : EReal => (kerArgs m c).bias (ix1 n) * u) ?_
  unfold scaleOf
  split_ifs
  all_goals first | exact one_read m c _ | exact half_read m c _ | contradiction

theorem pre_read (k : Fin 1024) : V m c main_v3 (ix2 (0 : Fin 1) k) = (kerArgs m c).pre (ix1 k) := by
  unfold V
  after_reads_at
  rfl

theorem post_read (k : Fin 1024) : V m c main_v11 (ix2 (0 : Fin 1) k) = (kerArgs m c).post (ix1 k) := by
  unfold V
  after_reads_at
  rfl

theorem down_read (n : Fin 2816) (k : Fin 1024) : V m c main_v10 (ix2 n k) = (kerArgs m c).down (ix2 n k) := by
  unfold V
  after_reads_at
  rfl

/-- Which block of its array each window holds at a point: the token blocks go with the batch row `t / 2` and the 1024
    tokens `t % 2` of it, every other array is held whole. -/
theorem index_x : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem index_whole : ∀ t : Fin cfg0.N, (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) ∧ (∀ a : Fin 2, win0_7.index t a = 0) :=
  (by decide +kernel : ∀ t : Fin grid0.N, _)
/-- A point's row of the modulation. -/
theorem coord_row : ∀ t : Fin cfg0.N, (grid0.coords t 0).val = t.val / 2 :=
  (by decide +kernel : ∀ t : Fin grid0.N, _)

variable (t : Fin cfg0.N)

/-- The point's batch row. -/
def rowOf : Fin 32 := ⟨t.val / 2, by have : t.val < 64 := lt_of_lt_of_eq t.isLt N_0; omega⟩
/-- Token `r` of the point's 1024. -/
def tokOf (r : Fin 1024) : Fin 2048 := ⟨1024 * (t.val % 2) + r.val, by omega⟩

theorem x_block (r : Fin 1024) (k : Fin 1024) :
    iblk m c 0 t (ix3 (0 : Fin 1) r k) = (kerArgs m c).x (ix3 (rowOf t) (tokOf t r) k) := by
  obtain ⟨e0, e1, e2⟩ := index_x t
  refine congrArg (V m c main_arg0) (funext fun a => Fin.ext ?_) |>.trans (congrFun (V_main_arg0 m c) _)
  match a with
  | 0 => show win0_0.index t (0 : Fin 3) * 1 + 1 * 0 = t.val / 2; omega
  | 1 => show win0_0.index t (1 : Fin 3) * 1024 + 1 * r.val = 1024 * (t.val % 2) + r.val; omega
  | 2 => show win0_0.index t (2 : Fin 3) * 1024 + 1 * k.val = k.val; omega

theorem mod_block (b : Fin 32) (n : Fin 6144) : iblk m c 1 t (ix2 b n) = (kerArgs m c).mod (ix2 b n) := by
  have e := (index_whole t).1
  refine congrArg (V m c main_arg1) (funext fun a => Fin.ext ?_) |>.trans (congrFun (V_main_arg1 m c) _)
  match a with
  | 0 => show win0_1.index t (0 : Fin 2) * 32 + 1 * b.val = b.val; rw [e]; omega
  | 1 => show win0_1.index t (1 : Fin 2) * 6144 + 1 * n.val = n.val; rw [e]; omega

theorem pre_block (k : Fin 1024) : iblk m c 2 t (ix2 (0 : Fin 1) k) = (kerArgs m c).pre (ix1 k) := by
  have e := (index_whole t).2.1
  refine congrArg (V m c main_v3) (funext fun a => Fin.ext ?_) |>.trans (pre_read m c k)
  match a with
  | 0 => show win0_2.index t (0 : Fin 2) * 1 + 1 * 0 = 0; rw [e]
  | 1 => show win0_2.index t (1 : Fin 2) * 1024 + 1 * k.val = k.val; rw [e]; omega

theorem up_block (k : Fin 1024) (n : Fin 5632) : iblk m c 3 t (ix2 k n) = (kerArgs m c).up (ix2 k n) := by
  have e := (index_whole t).2.2.1
  refine congrArg (V m c main_v4) (funext fun a => Fin.ext ?_) |>.trans (up_read m c k n)
  match a with
  | 0 => show win0_3.index t (0 : Fin 2) * 1024 + 1 * k.val = k.val; rw [e]; omega
  | 1 => show win0_3.index t (1 : Fin 2) * 5632 + 1 * n.val = n.val; rw [e]; omega

theorem taps_block (k : Fin 3) (n : Fin 5632) : iblk m c 4 t (ix2 k n) = (kerArgs m c).taps (ix2 k n) * scaleOf n := by
  have e := (index_whole t).2.2.2.1
  refine congrArg (V m c main_v7) (funext fun a => Fin.ext ?_) |>.trans (taps_read m c k n)
  match a with
  | 0 => show win0_4.index t (0 : Fin 2) * 3 + 1 * k.val = k.val; rw [e]; omega
  | 1 => show win0_4.index t (1 : Fin 2) * 5632 + 1 * n.val = n.val; rw [e]; omega

theorem bias_block (n : Fin 5632) : iblk m c 5 t (ix2 (0 : Fin 1) n) = (kerArgs m c).bias (ix1 n) * scaleOf n := by
  have e := (index_whole t).2.2.2.2.1
  refine congrArg (V m c main_v9) (funext fun a => Fin.ext ?_) |>.trans (bias_read m c n)
  match a with
  | 0 => show win0_5.index t (0 : Fin 2) * 1 + 1 * 0 = 0; rw [e]
  | 1 => show win0_5.index t (1 : Fin 2) * 5632 + 1 * n.val = n.val; rw [e]; omega

theorem down_block (n : Fin 2816) (k : Fin 1024) : iblk m c 6 t (ix2 n k) = (kerArgs m c).down (ix2 n k) := by
  have e := (index_whole t).2.2.2.2.2.1
  refine congrArg (V m c main_v10) (funext fun a => Fin.ext ?_) |>.trans (down_read m c n k)
  match a with
  | 0 => show win0_6.index t (0 : Fin 2) * 2816 + 1 * n.val = n.val; rw [e]; omega
  | 1 => show win0_6.index t (1 : Fin 2) * 1024 + 1 * k.val = k.val; rw [e]; omega

theorem post_block (k : Fin 1024) : iblk m c 7 t (ix2 (0 : Fin 1) k) = (kerArgs m c).post (ix1 k) := by
  have e := (index_whole t).2.2.2.2.2.2
  refine congrArg (V m c main_v11) (funext fun a => Fin.ext ?_) |>.trans (post_read m c k)
  match a with
  | 0 => show win0_7.index t (0 : Fin 2) * 1 + 1 * 0 = 0; rw [e]
  | 1 => show win0_7.index t (1 : Fin 2) * 1024 + 1 * k.val = k.val; rw [e]; omega

/-- A load of a whole memref's contents. -/
theorem load {sg : RefSig} {κ : Kind} {sp : Space} {s : Shape} {e : EltTy} {M : Memref sg κ sp s e} (h : M.IsWhole) (X : s.Idx → Elt Ideal e) (R : Rect s)
    (i : R.shape.Idx) (j : s.Idx) (hj : R.emb i = j) : M.view.readAt (Elt Ideal) R.toLoadRect (h.unread X) i = X j := by
  subst hj
  exact congrFun (h.read_unread X) _

/-- What the point loads. -/
abbrev ldAt : Ld := ldOf t (iblk m c 0 t) (iblk m c 1 t) (iblk m c 2 t) (iblk m c 3 t) (iblk m c 4 t) (iblk m c 5 t) (iblk m c 6 t) (iblk m c 7 t)

theorem ld_x (r k : Fin 1024) : (ldAt m c t).x (ix3 (0 : Fin 1) r k) = (kerArgs m c).x (ix3 (rowOf t) (tokOf t r) k) :=
  (load (hs0_0 t) (iblk m c 0 t) _ _ (ix3 (0 : Fin 1) r k) (funext fun a => Fin.ext (by
    match a with
    | 0 => rfl
    | 1 => show 0 + 1 * r.val = r.val; omega
    | 2 => show 0 + 1 * k.val = k.val; omega))).trans (x_block m c t r k)

theorem ld_gp (k : Fin 1024) : (ldAt m c t).gp (ix2 (0 : Fin 1) k) = (kerArgs m c).pre (ix1 k) :=
  (load (hs0_2 t) (iblk m c 2 t) _ _ (ix2 (0 : Fin 1) k) (funext fun a => Fin.ext (by
    match a with
    | 0 => rfl
    | 1 => show 0 + 1 * k.val = k.val; omega))).trans (pre_block m c t k)

theorem ld_gq (k : Fin 1024) : (ldAt m c t).gq (ix2 (0 : Fin 1) k) = (kerArgs m c).post (ix1 k) :=
  (load (hs0_7 t) (iblk m c 7 t) _ _ (ix2 (0 : Fin 1) k) (funext fun a => Fin.ext (by
    match a with
    | 0 => rfl
    | 1 => show 0 + 1 * k.val = k.val; omega))).trans (post_block m c t k)

/-- A row of the modulation, loaded from column `o` on. -/
theorem ld_mod (p : Fin 6) (k : Fin 1024) (off : Fin 2 → ℕ) (inb) (h : off = ![(grid0.coords t 0).val, 1024 * p.val]) :
    (ms0_1 t).view.readAt (Elt Ideal) (Rect.unit (s := S32x6144) off S1x1024.size inb).toLoadRect ((hs0_1 t).unread (iblk m c 1 t)) (ix2 (0 : Fin 1) k)
      = modAt (kerArgs m c) (rowOf t) p k := by
  subst h
  refine (load (hs0_1 t) (iblk m c 1 t) _ _ (ix2 (rowOf t) (⟨1024 * p.val + k.val, by omega⟩ : Fin 6144)) (funext fun a => Fin.ext ?_)).trans (mod_block m c t _ _)
  match a with
  | 0 => show (grid0.coords t 0).val + 1 * 0 = t.val / 2; rw [coord_row]; omega
  | 1 => show 1024 * p.val + 1 * k.val = 1024 * p.val + k.val; omega

theorem ld_m4 (k : Fin 1024) : (ldAt m c t).m4 (ix2 (0 : Fin 1) k) = modAt (kerArgs m c) (rowOf t) 4 k :=
  ld_mod m c t 4 k _ _ (k0_off1_eq _)
theorem ld_m3 (k : Fin 1024) : (ldAt m c t).m3 (ix2 (0 : Fin 1) k) = modAt (kerArgs m c) (rowOf t) 3 k :=
  ld_mod m c t 3 k _ _ (k0_off2_eq _)
theorem ld_m5 (k : Fin 1024) : (ldAt m c t).m5 (ix2 (0 : Fin 1) k) = modAt (kerArgs m c) (rowOf t) 5 k :=
  ld_mod m c t 5 k _ _ (k0_off3_eq _)

/-- Column `l` of tile `n`. -/
def colAt (n : ℕ) (l : Fin 256) : Fin 5632 := ⟨colOf n + l.val, by unfold colOf; omega⟩

theorem ld_W (n : ℕ) (k : Fin 1024) (l : Fin 256) : (ldAt m c t).W n (ix2 k l) = (kerArgs m c).up (ix2 k (colAt n l)) :=
  (load (hs0_3 t) (iblk m c 3 t) _ _ (ix2 k (colAt n l)) (funext fun a => Fin.ext (by
    match a with
    | 0 => show 0 + 1 * k.val = k.val; omega
    | 1 => show colOf n + 1 * l.val = colOf n + l.val; omega))).trans (up_block m c t k _)

theorem ld_T (n : ℕ) (k : Fin 3) (l : Fin 256) : (ldAt m c t).T n (ix2 k l) = (kerArgs m c).taps (ix2 k (colAt n l)) * scaleOf (colAt n l) :=
  (load (hs0_4 t) (iblk m c 4 t) _ _ (ix2 k (colAt n l)) (funext fun a => Fin.ext (by
    match a with
    | 0 => show 0 + 1 * k.val = k.val; omega
    | 1 => show colOf n + 1 * l.val = colOf n + l.val; omega))).trans (taps_block m c t k _)

theorem ld_B (n : ℕ) (l : Fin 256) : (ldAt m c t).B n (ix2 (0 : Fin 1) l) = (kerArgs m c).bias (ix1 (colAt n l)) * scaleOf (colAt n l) :=
  (load (hs0_5 t) (iblk m c 5 t) _ _ (ix2 (0 : Fin 1) (colAt n l)) (funext fun a => Fin.ext (by
    match a with
    | 0 => rfl
    | 1 => show colOf n + 1 * l.val = colOf n + l.val; omega))).trans (bias_block m c t _)

theorem ld_wd (n : Fin 2816) (k : Fin 1024) : (ldAt m c t).wd (ix2 n k) = (kerArgs m c).down (ix2 n k) :=
  (load (hs0_6 t) (iblk m c 6 t) _ _ (ix2 n k) (funext fun a => Fin.ext (by
    match a with
    | 0 => show 0 + 1 * n.val = n.val; omega
    | 1 => show 0 + 1 * k.val = k.val; omega))).trans (down_block m c t n k)

/-- The tile of the input that a tile of the result starts from. -/
theorem ld_X (r k : Fin 1024) : (ldAt m c t).X (8 * (k.val / 128) + r.val / 128) (ix3 (0 : Fin 1) (⟨r.val % 128, Nat.mod_lt _ (by decide)⟩ : Fin 128) (⟨k.val % 128, Nat.mod_lt _ (by decide)⟩ : Fin 128))
    = (kerArgs m c).x (ix3 (rowOf t) (tokOf t r) k) :=
  (load (hs0_0 t) (iblk m c 0 t) _ _ (ix3 (0 : Fin 1) r k) (funext fun a => Fin.ext (by
    match a with
    | 0 => rfl
    | 1 => show 128 * ((8 * (k.val / 128) + r.val / 128) % 8) + 1 * (r.val % 128) = r.val; omega
    | 2 => show 128 * ((8 * (k.val / 128) + r.val / 128) % 64 / 8) + 1 * (k.val % 128) = k.val; omega))).trans (x_block m c t r k)

/-- The carried rows of a tile, of what the point before left. -/
theorem carryIn_at (X : Vec Ideal S11x2x16x256 .f32) (n : ℕ) (hn : n < 22) (q : Fin 16) (l : Fin 256) :
    carryIn X n (ix4 (0 : Fin 1) (0 : Fin 1) q l) = X (ix4 (⟨n / 2, by omega⟩ : Fin 11) (⟨n % 2, by omega⟩ : Fin 2) q l) :=
  load (Memref.isWhole_whole cc0_scratch3 : scM0_3.IsWhole) X _ _ _ (funext fun a => Fin.ext (by
    match a with
    | 0 => show n % 22 / 2 + 1 * 0 = n / 2; omega
    | 1 => show n % 2 + 1 * 0 = n % 2; omega
    | 2 => show 0 + 1 * q.val = q.val; omega
    | 3 => show 0 + 1 * l.val = l.val; omega))

end Cert.FFN
end
-- ==== Proof.Point.lean ====
/-
  ONE GRID POINT. Over carried rows that are the two tokens before the point's 1024 (zeros before the first token), and over
  weights that keep the gate columns above minus infinity, the point stores the layer's result for its tokens; and the rows it
  leaves are the ones the next point wants.
  The regrouped row `p` is token `128 (p % 8) + p / 8`: one token back is eight rows up, and for the first eight rows a
  row near the end.
-/
module
public import proofs.«01_k».proof.Proof.Tiles
public import proofs.«01_k».proof.Proof.Host
@[expose] public section
set_option maxRecDepth 16384
noncomputable section
namespace Cert.FFN
open Cert.KernelIdeal Cert.KernelIdeal.Gen Cert.KernelIdeal.Value Idealize.ShloMosaic Idealize.ShloMosaic.TcCoe

/-- No infinity reaches a gate column but plus infinity from its bias. -/
structure GateWeights (A : Args) : Prop where
  mod : ∀ b k, IsReal (modAt A b 3 k) ∧ IsReal (modAt A b 4 k)
  pre : ∀ i, IsReal (A.pre i)
  up : ∀ k (n : Fin 2816), IsReal (A.up (ix2 k ⟨n.val, by omega⟩))
  taps : ∀ d (n : Fin 2816), IsReal (A.taps (ix2 d ⟨n.val, by omega⟩))
  bias : ∀ n : Fin 2816, A.bias (ix1 ⟨n.val, by omega⟩) ≠ ⊥

section
variable {A : Args} (R : GateWeights A)
include R

theorem up_real (b : Fin 32) (t : Fin 2048) (n : Fin 2816) : IsReal (upAt A b t ⟨n.val, by omega⟩) :=
  isReal_sum _ _ fun k => isReal_mul (isReal_add (isReal_mul (isReal_mul (normed_real (fun k => A.x (ix3 b t k)) k) (R.pre _)) (isReal_add isReal_one (R.mod b k).2)) (R.mod b k).1) (R.up _ _)

theorem past_real (b : Fin 32) (t : Fin 2048) (d : ℕ) (n : Fin 2816) : IsReal (past A b t d ⟨n.val, by omega⟩) := by
  unfold past
  split_ifs
  · exact up_real R _ _ _
  · exact isReal_zero

theorem gate_above (b : Fin 32) (t : Fin 2048) (n : Fin 2816) : convAt A b t ⟨n.val, by omega⟩ ≠ ⊥ := by
  obtain ⟨r, hr⟩ := isReal_add (isReal_add (isReal_mul (up_real R b t n) (R.taps 2 n)) (isReal_mul (past_real R b t 1 n) (R.taps 1 n)))
    (isReal_mul (past_real R b t 2 n) (R.taps 0 n))
  unfold convAt
  rw [hr]
  exact fun h => (EReal.add_eq_bot_iff.1 h).elim (EReal.coe_ne_bot r) (R.bias n)
end

theorem mul_scale (x y : EReal) (n : Fin 5632) : (x + y) * scaleOf n = x * scaleOf n + y * scaleOf n := by
  unfold scaleOf
  split_ifs
  · simp only [mul_one]
  · rw [half_val]
    exact EReal.right_distrib_of_nonneg_of_ne_top (by norm_num) (EReal.coe_ne_top _) _ _

theorem scaled {u v w a b c d : EReal} (n : Fin 5632) : u * (a * scaleOf n) + v * (b * scaleOf n) + w * (c * scaleOf n) + d * scaleOf n
    = (u * a + v * b + w * c + d) * scaleOf n := by
  rw [mul_scale, mul_scale, mul_scale, mul_assoc, mul_assoc, mul_assoc]

variable (m : (ℓ : Loc nD τ sig) → Buf (Elt Ideal) ℓ) (c : Dev nD) (t : Fin cfg0.N)

/-- The token of a regrouped row. -/
def tokP (p : Fin 1024) : Fin 2048 := tokOf t ⟨128 * (p.val % 8) + p.val / 8, by omega⟩

theorem tokP_val (p : Fin 1024) : (tokP t p).val = 1024 * (t.val % 2) + (128 * (p.val % 8) + p.val / 8) := rfl

theorem norm_congr {f g : Fin 1024 → EReal} (e : f = g) (k : Fin 1024) {p p' a a' b b' : EReal} (hp : p = p') (ha : a = a') (hb : b = b') :
    f k * rinv f * (p * (1 + a)) + b = g k * rinv g * p' * (1 + a') + b' := by
  subst e hp ha hb
  rw [mul_assoc (f k * rinv f)]

theorem rows_at (p k : Fin 1024) : hs (nrm (ldAt m c t)) (ix2 p k) = hAt (kerArgs m c) (rowOf t) (tokP t p) k :=
  (hs_at _ p k).trans ((atNat_of (nrm (ldAt m c t)) (⟨128 * (p.val % 8) + p.val / 8, by omega⟩ : Fin 1024) k _ _ rfl rfl).symm.trans
    ((pay3_at _ _ _ _ _ k).trans (norm_congr (funext fun k => ld_x m c t _ k) k (ld_gp m c t k) (ld_m4 m c t k) (ld_m3 m c t k))))

theorem up_at (n : ℕ) (p : Fin 1024) (l : Fin 256) :
    up (ldAt m c t) n (ix2 p l) = upAt (kerArgs m c) (rowOf t) (tokP t p) (colAt n l) :=
  (pay1045_at _ _ p l).trans (Finset.sum_congr (M := EReal) rfl fun k _ => congrArg₂ (fun u v : EReal => u * v) (rows_at m c t p k) (ld_W m c t n k l))

/-- Carried rows that are right for the point: the two tokens before the point's first. -/
def Good (C : ℕ → Vec Ideal S1x1x16x256 .f32) : Prop := ∀ (n : ℕ), n < 22 → ∀ (l : Fin 256),
  C n (ix4 (0 : Fin 1) (0 : Fin 1) (15 : Fin 16) l) = past (kerArgs m c) (rowOf t) (tokP t 0) 1 (colAt n l)
  ∧ C n (ix4 (0 : Fin 1) (0 : Fin 1) (7 : Fin 16) l) = past (kerArgs m c) (rowOf t) (tokP t 0) 2 (colAt n l)

theorem good_first (h0 : t.val % 2 = 0) : Good m c t (carryZero (ldAt m c t)) := fun n hn l => by
  have h : (tokP t 0).val = 0 := by rw [tokP_val]; show 1024 * (t.val % 2) + (128 * (0 % 8) + 0 / 8) = 0; omega
  unfold past
  rw [if_neg (by omega), if_neg (by omega)]
  exact ⟨carryZero_at _ n hn _ l, carryZero_at _ n hn _ l⟩

/-- Rows a point `s` left: of every tile, its last sixteen regrouped rows. -/
def Left (s : Fin cfg0.N) (X : Vec Ideal S11x2x16x256 .f32) : Prop := ∀ (j : Fin 11) (h : Fin 2) (q : Fin 16) (l : Fin 256),
  X (ix4 j h q l) = upAt (kerArgs m c) (rowOf s) (tokP s ⟨1008 + q.val, by omega⟩) (colAt (2 * j.val + h.val) l)

theorem left_at (base : Pcs S11x2x16x256 .f32) : Left m c t (View.canon (carryL (ldAt m c t) base 22)) := fun j h q l =>
  (carryL_at _ base j h q l).trans (up_at m c t _ _ l)

theorem good_next (s : Fin cfg0.N) (h0 : ¬ t.val % 2 = 0) (hst : s.val + 1 = t.val) (X : Vec Ideal S11x2x16x256 .f32) (hX : Left m c s X) :
    Good m c t (carryIn X) := fun n hn l => by
  have h : (tokP t 0).val = 1024 := by rw [tokP_val]; show 1024 * (t.val % 2) + (128 * (0 % 8) + 0 / 8) = 1024; omega
  have e1 : rowOf s = rowOf t := Fin.ext (by show s.val / 2 = t.val / 2; omega)
  have hn' : 2 * (n / 2) + n % 2 = n := Nat.div_add_mod n 2
  unfold past
  rw [if_pos (by omega), if_pos (by omega), carryIn_at X n hn, carryIn_at X n hn, hX, hX, e1]
  refine ⟨congrArg₂ (upAt (kerArgs m c) (rowOf t)) (Fin.ext ?_) (congrArg (fun z => colAt z l) hn'),
    congrArg₂ (upAt (kerArgs m c) (rowOf t)) (Fin.ext ?_) (congrArg (fun z => colAt z l) hn')⟩
  · show 1024 * (s.val % 2) + (128 * ((1008 + 15) % 8) + (1008 + 15) / 8) = (tokP t 0).val - 1; omega
  · show 1024 * (s.val % 2) + (128 * ((1008 + 7) % 8) + (1008 + 7) / 8) = (tokP t 0).val - 2; omega

variable {m c t}

theorem past_of {b : Fin 32} {s s' : Fin 2048} {d : ℕ} {n : Fin 5632} (h : s'.val + d = s.val) :
    upAt (kerArgs m c) b s' n = past (kerArgs m c) b s d n := by
  unfold past
  rw [if_pos (by omega)]
  exact congrArg (fun q => upAt (kerArgs m c) b q n) (Fin.ext (by show s'.val = s.val - d; omega))

theorem past_shift {b : Fin 32} {s s' : Fin 2048} {n : Fin 5632} (h : s.val = s'.val + 1) :
    past (kerArgs m c) b s' 1 n = past (kerArgs m c) b s 2 n := by
  unfold past
  by_cases h1 : 1 ≤ s'.val
  · rw [if_pos h1, if_pos (by omega)]
    exact congrArg (fun q => upAt (kerArgs m c) b q n) (Fin.ext (by show s'.val - 1 = s.val - 2; omega))
  · rw [if_neg h1, if_neg (by omega)]

/-- One token back. -/
theorem back_one {C : ℕ → Vec Ideal S1x1x16x256 .f32} (hg : Good m c t C) (n : ℕ) (hn : n < 22) (p : Fin 1024) (l : Fin 256) :
    back1 (ldAt m c t) C n p l = past (kerArgs m c) (rowOf t) (tokP t p) 1 (colAt n l) := by
  have hp := tokP_val t p
  have hlt := p.isLt
  unfold back1
  by_cases h : p.val = 0
  · rw [if_pos h, (hg n hn l).1, show p = 0 from Fin.ext h]
  · rw [if_neg h]
    by_cases h' : p.val < 8
    · rw [dif_pos h', up_at]
      refine past_of ?_
      rw [hp, tokP_val]
      show 1024 * (t.val % 2) + (128 * ((1015 + p.val) % 8) + (1015 + p.val) / 8) + 1 = _
      have e8 : (1015 + p.val) / 8 = 127 := by omega
      omega
    · rw [dif_neg h', up_at]
      refine past_of ?_
      rw [hp, tokP_val]
      show 1024 * (t.val % 2) + (128 * ((p.val - 8) % 8) + (p.val - 8) / 8) + 1 = _
      omega

/-- Two tokens back. -/
theorem back_two {C : ℕ → Vec Ideal S1x1x16x256 .f32} (hg : Good m c t C) (n : ℕ) (hn : n < 22) (p : Fin 1024) (l : Fin 256) :
    back2 (ldAt m c t) C n p l = past (kerArgs m c) (rowOf t) (tokP t p) 2 (colAt n l) := by
  have hp := tokP_val t p
  have hlt := p.isLt
  unfold back2
  by_cases h : p.val = 0
  · rw [if_pos h, (hg n hn l).2, show p = 0 from Fin.ext h]
  · rw [if_neg h]
    by_cases h8 : p.val = 8
    · rw [if_pos h8, (hg n hn l).1]
      refine past_shift ?_
      rw [hp, tokP_val]
      show _ = 1024 * (t.val % 2) + (128 * (0 % 8) + 0 / 8) + 1
      omega
    · rw [if_neg h8]
      by_cases h' : p.val < 16
      · rw [dif_pos h', up_at]
        refine past_of ?_
        rw [hp, tokP_val]
        show 1024 * (t.val % 2) + (128 * ((1007 + p.val) % 8) + (1007 + p.val) / 8) + 2 = _
        rcases lt_or_ge p.val 8 with hl | hl
        · have e8 : (1007 + p.val) / 8 = 126 := by omega
          omega
        have e8 : (1007 + p.val) / 8 = 127 := by omega
        omega
      · rw [dif_neg h', up_at]
        refine past_of ?_
        rw [hp, tokP_val]
        show 1024 * (t.val % 2) + (128 * ((p.val - 16) % 8) + (p.val - 16) / 8) + 2 = _
        omega

/-- The convolution of a tile, times the factor the tile's taps and biases carry. -/
theorem mix_at {C : ℕ → Vec Ideal S1x1x16x256 .f32} (hg : Good m c t C) (n : ℕ) (hn : n < 22) (p : Fin 1024) (l : Fin 256) :
    conv (ldAt m c t) C n (ix2 p l) = convAt (kerArgs m c) (rowOf t) (tokP t p) (colAt n l) * scaleOf (colAt n l) := by
  rw [conv_at, up_at, back_one hg n hn, back_two hg n hn, ld_T, ld_T, ld_T, ld_B]
  exact scaled _

/-- A tile of the gated activation. -/
theorem gated_at (R : GateWeights (kerArgs m c)) {C : ℕ → Vec Ideal S1x1x16x256 .f32} (hg : Good m c t C) (j : ℕ) (hj : j < 11) (p : Fin 1024) (q : Fin 256) :
    Same (gated (ldAt m c t) C j (ix2 p q)) (actAt (kerArgs m c) (rowOf t) (tokP t p) ⟨256 * j + q.val, by omega⟩) := by
  have hq := q.isLt
  have g : colAt (2 * j) q = ⟨256 * j + q.val, by omega⟩ := Fin.ext (by
    show 2 * j % 22 % 2 * 2816 + 256 * (2 * j % 22 / 2) + q.val = 256 * j + q.val
    omega)
  have v : colAt (2 * j + 1) q = ⟨2816 + (256 * j + q.val), by omega⟩ := Fin.ext (by
    show (2 * j + 1) % 22 % 2 * 2816 + 256 * ((2 * j + 1) % 22 / 2) + q.val = 2816 + (256 * j + q.val)
    omega)
  have sg : scaleOf ⟨256 * j + q.val, by omega⟩ = 1 := if_pos (show 256 * j + q.val < 2816 by omega)
  have sv : scaleOf ⟨2816 + (256 * j + q.val), by omega⟩ = Ideal.ofBits FTy.f32 1056964608#32 := if_neg (show ¬ 2816 + (256 * j + q.val) < 2816 by omega)
  have e : gated (ldAt m c t) C j (ix2 p q) = gate (convAt (kerArgs m c) (rowOf t) (tokP t p) (colAt (2 * j) q) * scaleOf (colAt (2 * j) q))
      (convAt (kerArgs m c) (rowOf t) (tokP t p) (colAt (2 * j + 1) q) * scaleOf (colAt (2 * j + 1) q)) :=
    (pay1243_at _ _ p q).trans (congrArg₂ gate (mix_at hg (2 * j) (by omega) p q) (mix_at hg (2 * j + 1) (by omega) p q))
  rw [e, g, v, sg, sv, mul_one]
  exact gate_same (gate_above R _ _ ⟨256 * j + q.val, by omega⟩)

/-- The tiles side by side are the gated activation. -/
theorem act_at (R : GateWeights (kerArgs m c)) {C : ℕ → Vec Ideal S1x1x16x256 .f32} (hg : Good m c t C) (p : Fin 1024) (n : Fin 2816) :
    Same (scM0_4.view.readCov (Val := Elt Ideal) (gatedL (ldAt m c t) C 11) (Rect.unit ![0, 0] S1024x2816.size inb_S1024x2816_S1024x2816_0_0).toLoadRect (ix2 p n))
      (actAt (kerArgs m c) (rowOf t) (tokP t p) n) :=
  same_of_eq (act_read _ C p n) (gated_at R hg (n.val / 256) (by omega) p ⟨n.val % 256, Nat.mod_lt _ (by decide)⟩)
    (congrArg (actAt (kerArgs m c) (rowOf t) (tokP t p)) (Fin.ext (by show 256 * (n.val / 256) + n.val % 256 = n.val; omega)))

theorem delta_congr {f g : Fin 1024 → EReal} (e : ∀ k, Same (f k) (g k)) (k : Fin 1024) {a a' b b' : EReal} (ha : a = a') (hb : b = b') :
    f k * rinv f * (a * b) = a' * (g k * rinv g * b') := by
  subst ha hb
  rw [mul_left_comm, same_normed e]

/-- What the point adds to its tokens, in the regrouped order. -/
theorem delta_at (R : GateWeights (kerArgs m c)) {C : ℕ → Vec Ideal S1x1x16x256 .f32} (hg : Good m c t C) (p k : Fin 1024) :
    delta (ldAt m c t) C (ix2 p k) = modAt (kerArgs m c) (rowOf t) 5 k
      * (downAt (kerArgs m c) (rowOf t) (tokP t p) k * rinv (downAt (kerArgs m c) (rowOf t) (tokP t p)) * (kerArgs m c).post (ix1 k)) := by
  have hs : ∀ k, Same _ (downAt (kerArgs m c) (rowOf t) (tokP t p) k) := fun k => same_dot (act_at R hg p) fun n => ld_wd m c t n k
  exact (pay1244_at _ _ _ _ p k).trans (delta_congr hs k (ld_m5 m c t k) (ld_gq m c t k))

/-- What the point stores. -/
theorem point_at (R : GateWeights (kerArgs m c)) {C : ℕ → Vec Ideal S1x1x16x256 .f32} (hg : Good m c t C) (r k : Fin 1024) :
    View.canon (outL (ldAt m c t) C 64) (ix3 (0 : Fin 1) r k) = outAt (kerArgs m c) (rowOf t) (tokOf t r) k := by
  refine (out_at _ C r k).trans ((congrArg₂ (fun u v : EReal => u + v) (ld_X m c t r k) (delta_at R hg _ k)).trans ?_)
  have e : tokP t ⟨8 * (r.val % 128) + r.val / 128, by omega⟩ = tokOf t r := Fin.ext (by
    show 1024 * (t.val % 2) + (128 * ((8 * (r.val % 128) + r.val / 128) % 8) + (8 * (r.val % 128) + r.val / 128) / 8) = 1024 * (t.val % 2) + r.val
    omega)
  rw [e]
  rfl

end Cert.FFN
end
-- ==== Proof.Fold.lean ====
/-
  THE WHOLE GRID. What a point carries depends on its own block alone, so each point's carried rows are right for it: zeros
  at a batch row's first point, the last rows of the block before it at the other. The array the kernel leaves is the
  layer's result.
-/
module
public import proofs.«01_k».proof.Proof.WordsA
public import proofs.«01_k».proof.Proof.WordsB
public import proofs.«01_k».proof.Proof.Point
@[expose] public section
set_option maxRecDepth 16384
noncomputable section
namespace Cert.FFN
open Cert.KernelIdeal Cert.KernelIdeal.Gen Cert.KernelIdeal.Value Idealize.ShloMosaic Idealize.ShloMosaic.TcCoe

variable (m : (ℓ : Loc nD τ sig) → Buf (Elt Ideal) ℓ) (c : Dev nD)

/-- A batch row's first point. -/
theorem step_first (t : Fin cfg0.N) (h0 : t.val % 2 = 0) (acc) :
    (stAt0 m c t.val t.isLt acc).1 = View.canon (outL (ldAt m c t) (carryZero (ldAt m c t)) 64) ∧ Left m c t (stAt0 m c t.val t.isLt acc).2 := by
  rw [stAt0_A m c t acc h0]
  unfold out0_A_8 sout0_A_3
  rw [View.read_writes_junk_eq_canon, View.read_writes_junk_eq_canon]
  constructor
  · dsimp only
    rw [out_A c t]
  · dsimp only
    rw [carry_A c t]
    exact left_at m c t _

/-- Its other point. -/
theorem step_next (t : Fin cfg0.N) (h0 : ¬ t.val % 2 = 0) (acc) :
    (stAt0 m c t.val t.isLt acc).1 = View.canon (outL (ldAt m c t) (carryIn acc.2) 64) ∧ Left m c t (stAt0 m c t.val t.isLt acc).2 := by
  rw [stAt0_B m c t acc h0]
  unfold out0_B_8 sout0_B_3
  rw [View.read_writes_junk_eq_canon, View.read_writes_junk_eq_canon]
  constructor
  · dsimp only
    rw [out_B c t]
  · dsimp only
    rw [carry_B c t]
    exact left_at m c t _

/-- The state the kernel carries after the point `n`. -/
def stateAt (n : ℕ) (h : 0 + n < cfg0.N) :=
  Pipeline.accAt (fun n h => stAt0 m c n h junk0) (stAt0 m c) 0 n h

theorem state_step (n : ℕ) (h : 0 + (n + 1) < cfg0.N) (t : Fin cfg0.N) (ht : t.val = n + 1) :
    stateAt m c (n + 1) h = stAt0 m c t.val t.isLt (stateAt m c n (Nat.lt_of_succ_lt h)) := by
  obtain ⟨v, hv⟩ := t
  have : v = 0 + (n + 1) := by rw [Nat.zero_add]; exact ht
  subst this
  rfl

theorem state_zero (h : 0 + 0 < cfg0.N) : stateAt m c 0 h = stAt0 m c (⟨0, h⟩ : Fin cfg0.N).val (⟨0, h⟩ : Fin cfg0.N).isLt junk0 := rfl

/-- After a point the carried rows are the last of its block. -/
theorem state_carry (t : Fin cfg0.N) (h : 0 + t.val < cfg0.N) : Left m c t (stateAt m c t.val h).2 := by
  have step : ∀ acc, Left m c t (stAt0 m c t.val t.isLt acc).2 := fun acc => by
    by_cases h0 : t.val % 2 = 0
    · exact (step_first m c t h0 acc).2
    · exact (step_next m c t h0 acc).2
  obtain ⟨v, hv⟩ := t
  cases v with
  | zero => exact (congrArg Prod.snd (state_zero m c h)).symm ▸ step junk0
  | succ n => exact (congrArg Prod.snd (state_step m c n h ⟨n + 1, hv⟩ rfl)).symm ▸ step _

variable {m c}

/-- What a point writes is the layer's result for its tokens. -/
theorem state_out (R : GateWeights (kerArgs m c)) (t : Fin cfg0.N) (h : 0 + t.val < cfg0.N) (r k : Fin 1024) :
    (stateAt m c t.val h).1 (ix3 (0 : Fin 1) r k) = outAt (kerArgs m c) (rowOf t) (tokOf t r) k := by
  have first : t.val % 2 = 0 → ∀ acc, (stAt0 m c t.val t.isLt acc).1 (ix3 (0 : Fin 1) r k) = outAt (kerArgs m c) (rowOf t) (tokOf t r) k :=
    fun h0 acc => (congrFun (step_first m c t h0 acc).1 _).trans (point_at R (good_first m c t h0) r k)
  have other : ∀ (s : Fin cfg0.N) (h0 : ¬ t.val % 2 = 0) (hs : s.val + 1 = t.val) (acc), Left m c s acc.2 →
      (stAt0 m c t.val t.isLt acc).1 (ix3 (0 : Fin 1) r k) = outAt (kerArgs m c) (rowOf t) (tokOf t r) k := fun s h0 hs acc ha =>
    (congrFun (step_next m c t h0 acc).1 _).trans (point_at R (good_next m c t s h0 hs acc.2 ha) r k)
  obtain ⟨v, hv⟩ := t
  cases v with
  | zero => exact (congrFun (congrArg Prod.fst (state_zero m c h)) _).trans (first (by show 0 % 2 = 0; rfl) _)
  | succ n =>
    refine (congrFun (congrArg Prod.fst (state_step m c n h ⟨n + 1, hv⟩ rfl)) _).trans ?_
    by_cases h0 : (n + 1) % 2 = 0
    · exact first h0 _
    · exact other ⟨n, Nat.lt_of_succ_lt hv⟩ h0 rfl _ (state_carry m c ⟨n, Nat.lt_of_succ_lt hv⟩ (Nat.lt_of_succ_lt h))

/-- The array the kernel leaves. -/
theorem kernel_out (R : GateWeights (kerArgs m c)) (i : S32x2048x1024.Idx) : G8 m c i = outAt (kerArgs m c) (i 0) (i 1) (i 2) := by
  have h0 : (i 0).val < 32 := (i 0).isLt
  have h1 : (i 1).val < 2048 := (i 1).isLt
  have h2 : (i 2).val < 1024 := (i 2).isLt
  have hp : pt8Of i = 2 * (i 0).val + (i 1).val / 1024 := by
    show 2 * ((i 0).val / 1 - 0) + 1 * ((i 1).val / 1024 - 0) + 1 * ((i 2).val / 1024 - 0) = _
    omega
  have hN : pt8Of i < cfg0.N := by rw [hp]; exact lt_of_lt_of_eq (by omega) N_0.symm
  have hl : loc8Of i = ix3 (0 : Fin 1) (⟨(i 1).val % 1024, Nat.mod_lt _ (by decide)⟩ : Fin 1024) (⟨(i 2).val, h2⟩ : Fin 1024) := funext fun a => Fin.ext (by
    match a with
    | 0 => show (i 0).val % 1 = 0; omega
    | 1 => rfl
    | 2 => show (i 2).val % 1024 = (i 2).val; omega)
  unfold G8
  rw [dif_pos hN, hl]
  refine (state_out R ⟨pt8Of i, hN⟩ _ _ _).trans ?_
  have e0 : rowOf (⟨pt8Of i, hN⟩ : Fin cfg0.N) = i 0 := Fin.ext (by show pt8Of i / 2 = (i 0).val; omega)
  have e1 : tokOf (⟨pt8Of i, hN⟩ : Fin cfg0.N) (⟨(i 1).val % 1024, Nat.mod_lt _ (by decide)⟩ : Fin 1024) = i 1 := Fin.ext (by
    show 1024 * (pt8Of i % 2) + (i 1).val % 1024 = (i 1).val; omega)
  rw [e0, e1]
  rfl

end Cert.FFN
end
-- ==== Proof.Ref.lean ====
/-
  THE REFERENCE AT AN ENTRY. The reference's composed term, read at one entry, is the entry `outAt` of its eight arguments.
-/
module
public import proofs.«01_k».proof.Proof.Spec
public import proofs.«01_k».proof.Proof.Gen.ReferenceIdeal.Run
@[expose] public section
set_option maxRecDepth 16384
noncomputable section
namespace Cert.FFN
open Cert.ReferenceIdeal Cert.ReferenceIdeal.Gen Cert.ReferenceIdeal.Value Idealize.ShloMosaic Idealize.ShloMosaic.TcCoe

/-- The reference's arguments. -/
def refArgs (V0 : Valuation τ sig (Elt Ideal)) : Args where
  x := V0 (Proc.devRef .tc main_arg0)
  mod := V0 (Proc.devRef .tc main_arg1)
  pre := V0 (Proc.devRef .tc main_arg2)
  up := V0 (Proc.devRef .tc main_arg3)
  taps := V0 (Proc.devRef .tc main_arg4)
  bias := V0 (Proc.devRef .tc main_arg5)
  down := V0 (Proc.devRef .tc main_arg6)
  post := V0 (Proc.devRef .tc main_arg7)

variable (V0 : Valuation τ sig (Elt Ideal))

/-- The padded up-projection: two zero rows, then the tokens' rows. -/
theorem ref_pad (b : Fin 32) (t : Fin 2050) (n : Fin 5632) :
    res_main_v32 V0 (ix3 b t n) = if h : 2 ≤ t.val then upAt (refArgs V0) b ⟨t.val - 2, by omega⟩ n else 0 := by
  unfold res_main_v32
  pointwise
  by_cases h : 2 ≤ t.val
  · rw [dif_pos h, dif_pos ⟨h, by omega⟩]
    rfl
  · rw [dif_neg h, dif_neg (fun h' => h h'.1)]
    show ((((0 : BitVec 32).toInt : ℝ)) : EReal) = 0
    simp

/-- Row `2 + t - d` of the padded up-projection is the up-projection `d` tokens before token `t`. -/
theorem ref_past (b : Fin 32) (t : Fin 2048) (n : Fin 5632) (d : ℕ) (s : Fin 2050) (hs : s.val + d = t.val + 2) :
    res_main_v32 V0 (ix3 b s n) = past (refArgs V0) b t d n := by
  rw [ref_pad]
  unfold past
  by_cases h : d ≤ t.val
  · rw [if_pos h, dif_pos (by omega)]
    exact congrArg (fun q => upAt (refArgs V0) b q n) (Fin.ext (by show s.val - 2 = t.val - d; omega))
  · rw [if_neg h, dif_neg (by omega)]

/-- The three taps, added from the oldest or from the newest. -/
theorem taps_comm (p q r s : EReal) : p + q + r + s = r + q + p + s := by
  rw [add_comm (p + q) r, add_comm p q, ← add_assoc]

theorem ref_conv (b : Fin 32) (t : Fin 2048) (n : Fin 5632) : res_main_v55 V0 (ix3 b t n) = convAt (refArgs V0) b t n := by
  unfold res_main_v55
  pointwise
  rw [ref_past V0 b t n 2 ⟨t.val, by omega⟩ rfl, ref_past V0 b t n 1 ⟨1 + t.val, by omega⟩ (by show 1 + t.val + 1 = t.val + 2; omega),
    ref_past V0 b t n 0 ⟨2 + t.val, by omega⟩ (by show 2 + t.val + 0 = t.val + 2; omega)]
  have e : past (refArgs V0) b t 0 n = upAt (refArgs V0) b t n := by
    unfold past; rw [if_pos (Nat.zero_le _)]; rfl
  rw [e]
  exact taps_comm _ _ _ _

theorem ref_down (b : Fin 32) (t : Fin 2048) (k : Fin 1024) : res_main_v72 V0 (ix3 b t k) = downAt (refArgs V0) b t k := by
  unfold res_main_v72 res_main_v56
  pointwise
  unfold downAt
  refine Finset.sum_congr (M := EReal) rfl fun n _ => ?_
  rw [ref_conv, ref_conv]
  rfl

/-- The reference's result. -/
def refOut : S32x2048x1024.Idx → EReal := fun i => outAt (refArgs V0) (i 0) (i 1) (i 2)

/-- The reference's result, every entry of it. -/
theorem ref_out : val2 V0 (Proc.devRef .tc main_v88) = refOut V0 := by
  funext i
  have e : ∀ (b : Fin 32) (t : Fin 2048) (k : Fin 1024), val2 V0 (Proc.devRef .tc main_v88) (ix3 b t k) = outAt (refArgs V0) b t k := fun b t k => by
    rw [val2_main_v88]
    pointwise
    simp only [ref_down]
    rfl
  exact (congrArg _ (eq_ix3 i)).trans (e (i 0) (i 1) (i 2))

end Cert.FFN
-- ==== Proof.Adaln.lean ====
/-
  THE MODULATION'S PROJECTION. The call that makes the modulation vectors: the conditioning vector through the smooth
  switch, times a matrix, plus a bias, in blocks of 1024 columns; and the reference's lines for it.
-/
module
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.StableHlo.ReadAt
@[expose] public section
set_option maxRecDepth 16384
noncomputable section
namespace Cert.Adaln
open Idealize.ShloMosaic Idealize.ShloMosaic.TcCoe

/-- One entry of the modulation. -/
def modOf (v : (⟨2, ![32, 1024]⟩ : Shape).Idx → EReal) (w : (⟨2, ![1024, 6144]⟩ : Shape).Idx → EReal) (b : (⟨1, ![6144]⟩ : Shape).Idx → EReal)
    (r : Fin 32) (n : Fin 6144) : EReal :=
  (∑ k : Fin 1024, v (ix2 r k) * Ideal.div 1 (1 + Ideal.exp (-v (ix2 r k))) * w (ix2 k n)) + b (ix1 n)

section Kernel
open Cert.Kernel2Ideal Cert.Kernel2Ideal.Gen Cert.Kernel2Ideal.Value

theorem pay_at (v : Vec Ideal S32x1024 .f32) (w : Vec Ideal S1024x1024 .f32) (b : Vec Ideal S1x1024 .f32) (r : Fin 32) (k : Fin 1024) :
    k0_pay1 v w b (ix2 r k) = (Finset.sum (M := EReal) Finset.univ fun x : Fin 1024 =>
      v (ix2 r x) * Ideal.div 1 (1 + Ideal.exp (-v (ix2 r x))) * w (ix2 x k)) + b (ix2 0 k) := by
  unfold k0_pay1
  pointwise
  simp only [zero_sub]

variable (m : (ℓ : Loc nD τ sig) → Buf (Elt Ideal) ℓ) (c : Dev nD) (t : Fin cfg0.N)

theorem index_all : ∀ t : Fin cfg0.N, (∀ a : Fin 2, win0_0.index t a = 0) ∧ (win0_1.index t (0 : Fin 2) = 0 ∧ win0_1.index t (1 : Fin 2) = t.val)
    ∧ (win0_2.index t (0 : Fin 2) = 0 ∧ win0_2.index t (1 : Fin 2) = t.val) ∧ (win0_3.index t (0 : Fin 2) = 0 ∧ win0_3.index t (1 : Fin 2) = t.val) :=
  (by decide +kernel : ∀ t : Fin grid0.N, _)

def colOf (k : Fin 1024) : Fin 6144 := ⟨1024 * t.val + k.val, by have : t.val < 6 := lt_of_lt_of_eq t.isLt N_0; omega⟩

theorem v_block (r : Fin 32) (k : Fin 1024) : iblk m c 0 t (ix2 r k) = m (c, Proc.tc.devRef main_arg0) (ix2 r k) := by
  have e := (index_all t).1
  refine congrArg (V m c main_arg0) (funext fun a => Fin.ext ?_) |>.trans (congrFun (V_main_arg0 m c) _)
  match a with
  | 0 => show win0_0.index t (0 : Fin 2) * 32 + 1 * r.val = r.val; rw [e]; omega
  | 1 => show win0_0.index t (1 : Fin 2) * 1024 + 1 * k.val = k.val; rw [e]; omega

theorem w_block (r k : Fin 1024) : iblk m c 1 t (ix2 r k) = m (c, Proc.tc.devRef main_arg1) (ix2 r (colOf t k)) := by
  obtain ⟨e0, e1⟩ := (index_all t).2.1
  refine congrArg (V m c main_arg1) (funext fun a => Fin.ext ?_) |>.trans (congrFun (V_main_arg1 m c) _)
  match a with
  | 0 => show win0_1.index t (0 : Fin 2) * 1024 + 1 * r.val = r.val; omega
  | 1 => show win0_1.index t (1 : Fin 2) * 1024 + 1 * k.val = 1024 * t.val + k.val; omega

theorem b_read (n : Fin 6144) : V m c main_v0 (ix2 (0 : Fin 1) n) = m (c, Proc.tc.devRef main_arg2) (ix1 n) := by
  unfold V
  after_reads_at

theorem b_block (k : Fin 1024) : iblk m c 2 t (ix2 (0 : Fin 1) k) = m (c, Proc.tc.devRef main_arg2) (ix1 (colOf t k)) := by
  obtain ⟨e0, e1⟩ := (index_all t).2.2.1
  refine congrArg (V m c main_v0) (funext fun a => Fin.ext ?_) |>.trans (b_read m c (colOf t k))
  match a with
  | 0 => show win0_2.index t (0 : Fin 2) * 1 + 1 * 0 = 0; omega
  | 1 => show win0_2.index t (1 : Fin 2) * 1024 + 1 * k.val = 1024 * t.val + k.val; omega

/-- The array the call leaves. -/
theorem kernel_out : (dats m 0 c).arrAt 3 cfg0.N = fun i : S32x6144.Idx => modOf (m (c, Proc.tc.devRef main_arg0)) (m (c, Proc.tc.devRef main_arg1))
    (m (c, Proc.tc.devRef main_arg2)) (i 0) (i 1) := by
  refine (dats m 0 c).arrAt_eq_of_covers 3 _ (by decide +kernel) fun t hf y => ?_
  blk_simp
  rw [after0_3]
  frame_out
  obtain ⟨e0, e1⟩ := (index_all t).2.2.2
  have key : ∀ (r : Fin 32) (k : Fin 1024), k0_pay1 (iblk m c 0 t) (iblk m c 1 t) (iblk m c 2 t) (ix2 r k)
      = modOf (m (c, Proc.tc.devRef main_arg0)) (m (c, Proc.tc.devRef main_arg1)) (m (c, Proc.tc.devRef main_arg2)) r (colOf t k) := fun r k => by
    rw [pay_at]
    unfold modOf
    simp only [v_block, w_block, b_block]
  refine (congrArg _ (eq_ix2 y)).trans ((key (y 0) (y 1)).trans ?_)
  refine congrArg₂ _ (Fin.ext ?_) (Fin.ext ?_)
  · show (y 0).val = win0_3.index t (0 : Fin 2) * 32 + 1 * (y 0).val; omega
  · show 1024 * t.val + (y 1).val = win0_3.index t (1 : Fin 2) * 1024 + 1 * (y 1).val; omega

end Kernel

section Reference
open Cert.Reference2Ideal Cert.Reference2Ideal.Gen Cert.Reference2Ideal.Value

/-- The reference's result. -/
theorem ref_out (v : FVec Ideal S32x1024 .f32) (w : FVec Ideal S1024x6144 .f32) (b : FVec Ideal S6144 .f32) :
    (addf (F := Ideal) (Host.dotGeneral dot_S32x1024_S1024x6144_S32x6144_1_0_0_1_n_n none (mulf v (Host.divf (broadcastInDim S32x1024 ![] bcast_S_S32x1024 (constant S_ .f32 0x3F800000#32)) (addf (broadcastInDim S32x1024 ![] bcast_S_S32x1024 (constant S_ .f32 0x3F800000#32)) (Host.exp (Host.negf v))))) w) (broadcastInDim S32x6144 ![0, 1] bcast_S1x6144_S32x6144_0_1 (broadcastInDim S1x6144 ![1] bcast_S6144_S1x6144_1 b)) : Vec Ideal S32x6144 .f32)
      = fun i : S32x6144.Idx => modOf v w b (i 0) (i 1) := by
  funext i
  pointwise
  rfl

end Reference

end Cert.Adaln
-- ==== Proof.lean ====
/-
  THE CLAIMS. For the feed-forward call (`Kernel`) and the modulation call (`Kernel2`): the kernel's frames over both
  readings, the reference's frame from its run, and the value claim: what the kernel leaves and what the reference leaves
  are the same function of the arguments. For the token mixer (`Kernel3`): its frames.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_gate_bounded
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import Idealize.ShloMosaic.Adequacy
public import Idealize.ShloMosaic.Init
public import Idealize.ShloMosaic.Lib.Quiescent
public import proofs.«01_k».proof.Proof.Fold
public import proofs.«01_k».proof.Proof.Ref
public import proofs.«01_k».proof.Proof.Adaln

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Memories that agree on the arguments hand both programs the same arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.tc.devRef Cert.ReferenceIdeal.main_arg0) = m (c, Proc.tc.devRef Cert.KernelIdeal.main_arg0))
    (h1 : m' (c, Proc.tc.devRef Cert.ReferenceIdeal.main_arg1) = m (c, Proc.tc.devRef Cert.KernelIdeal.main_arg1))
    (h2 : m' (c, Proc.tc.devRef Cert.ReferenceIdeal.main_arg2) = m (c, Proc.tc.devRef Cert.KernelIdeal.main_arg2))
    (h3 : m' (c, Proc.tc.devRef Cert.ReferenceIdeal.main_arg3) = m (c, Proc.tc.devRef Cert.KernelIdeal.main_arg3))
    (h4 : m' (c, Proc.tc.devRef Cert.ReferenceIdeal.main_arg4) = m (c, Proc.tc.devRef Cert.KernelIdeal.main_arg4))
    (h5 : m' (c, Proc.tc.devRef Cert.ReferenceIdeal.main_arg5) = m (c, Proc.tc.devRef Cert.KernelIdeal.main_arg5))
    (h6 : m' (c, Proc.tc.devRef Cert.ReferenceIdeal.main_arg6) = m (c, Proc.tc.devRef Cert.KernelIdeal.main_arg6))
    (h7 : m' (c, Proc.tc.devRef Cert.ReferenceIdeal.main_arg7) = m (c, Proc.tc.devRef Cert.KernelIdeal.main_arg7)) :
    Cert.FFN.refArgs (StableHlo.launchContents m' c) = Cert.FFN.kerArgs m c := by
  show (⟨m' (c, Proc.tc.devRef Cert.ReferenceIdeal.main_arg0), m' (c, Proc.tc.devRef Cert.ReferenceIdeal.main_arg1),
    m' (c, Proc.tc.devRef Cert.ReferenceIdeal.main_arg2), m' (c, Proc.tc.devRef Cert.ReferenceIdeal.main_arg3),
    m' (c, Proc.tc.devRef Cert.ReferenceIdeal.main_arg4), m' (c, Proc.tc.devRef Cert.ReferenceIdeal.main_arg5),
    m' (c, Proc.tc.devRef Cert.ReferenceIdeal.main_arg6), m' (c, Proc.tc.devRef Cert.ReferenceIdeal.main_arg7)⟩ : Cert.FFN.Args) = _
  rw [h0, h1, h2, h3, h4, h5, h6, h7]
  rfl

theorem quiescent_ReferenceIdeal_pre : quiescent_ReferenceIdeal_pre_gate_bounded := fun m ρ _ => quiescent_ReferenceIdeal m ρ trivial

/-- What the precondition says of an entry: its absolute value is below infinity. -/
theorem real_of {x : EReal} (h : Ideal.cmp .olt (max x (-x)) (Ideal.ofBits FTy.f32 0x7F800000#32) = 1#1) : Cert.FFN.IsReal x := by
  have ht : Ideal.ofBits FTy.f32 0x7F800000#32 = ⊤ := by simp [Ideal.ofBits, Ideal.ieee]
  rw [ht] at h
  have hlt : max x (-x) < ⊤ := by
    by_contra hn
    unfold Ideal.cmp at h
    simp [hn] at h
  obtain ⟨h1, h2⟩ := max_lt_iff.1 hlt
  exact Cert.FFN.isReal_iff.2 ⟨h1.ne, fun e => by subst e; exact absurd h2 (by simp)⟩

/-- What it says of a bias: it is above minus infinity. -/
theorem above_of {x : EReal} (h : Ideal.cmp .ogt x (Ideal.ofBits FTy.f32 0xFF800000#32) = 1#1) : x ≠ ⊥ := by
  have hb : Ideal.ofBits FTy.f32 0xFF800000#32 = ⊥ := by simp [Ideal.ofBits, Ideal.ieee]
  rw [hb] at h
  rintro rfl
  unfold Ideal.cmp at h
  simp at h

/-- Columns from `o` on of a matrix of `N` columns. -/
theorem columns {M N K o : ℕ} (v : (⟨2, ![M, N]⟩ : Shape).Idx → EReal) (h : (⟨2, ![M, N]⟩ : Shape).Slices ![0, o] ⟨2, ![M, K]⟩)
    (b : Fin M) (k : Fin K) (n : Fin N) (hn : n.val = o + k.val) :
    extractStridedSlice ⟨2, ![M, K]⟩ ![0, o] v h (ix2 b k) = v (ix2 b n) := by
  refine congrArg v (funext fun a => Fin.ext ?_)
  match a with
  | 0 => show 0 + b.val = b.val; omega
  | 1 => show o + k.val = n.val; omega

/-- The first entries of a list. -/
theorem entries {N K : ℕ} (v : (⟨1, ![N]⟩ : Shape).Idx → EReal) (h : (⟨1, ![N]⟩ : Shape).Slices ![0] ⟨1, ![K]⟩) (k : Fin K) (n : Fin N) (hn : n.val = k.val) :
    extractStridedSlice ⟨1, ![K]⟩ ![0] v h (ix1 k) = v (ix1 n) := by
  refine congrArg v (funext fun a => Fin.ext ?_)
  match a with
  | 0 => show 0 + k.val = n.val; omega

open Cert.Pre_gate_bounded.Facts in
/-- The precondition, entry by entry. -/
theorem weights (m : (ℓ : Loc Cert.KernelIdeal.nD Cert.KernelIdeal.τ Cert.KernelIdeal.sig) → Buf (Elt Ideal) ℓ)
    (hpre : Pre_KernelIdeal_gate_bounded m) (c : Dev Cert.KernelIdeal.nD) : Cert.FFN.GateWeights (Cert.FFN.kerArgs m c) := by
  obtain ⟨h1, h2, h3, h4, h5⟩ := hpre c
  refine ⟨fun b k => ⟨?_, ?_⟩, fun i => real_of (congrFun h2 i), fun k n => ?_, fun d n => ?_, fun n => ?_⟩
  · exact (congrArg Cert.FFN.IsReal (columns _ slices_S32x6144_S32x2048_0_3072 b ⟨k.val, by omega⟩ _ (by
      show 1024 * 3 + k.val = 3072 + k.val; omega))).mp (real_of (congrFun h1 _))
  · exact (congrArg Cert.FFN.IsReal (columns _ slices_S32x6144_S32x2048_0_3072 b ⟨1024 + k.val, by omega⟩ _ (by
      show 1024 * 4 + k.val = 3072 + (1024 + k.val); omega))).mp (real_of (congrFun h1 _))
  · exact (congrArg Cert.FFN.IsReal (columns _ slices_S1024x5632_S1024x2816_0_0 k n _ (Nat.zero_add _).symm)).mp (real_of (congrFun h3 _))
  · exact (congrArg Cert.FFN.IsReal (columns _ slices_S3x5632_S3x2816_0_0 d n _ (Nat.zero_add _).symm)).mp (real_of (congrFun h4 _))
  · exact (congrArg (· ≠ (⊥ : EReal)) (entries _ slices_S5632_S2816_0 n _ rfl)).mp (above_of (congrFun h5 _))

theorem algebraic_KernelIdeal_ReferenceIdeal : algebraic_KernelIdeal_ReferenceIdeal_pre_gate_bounded := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6, h7⟩ := hagree c
  refine (h c).1.trans ((Cert.ReferenceIdeal.Value.val2_main_v88 _).symm.trans ((Cert.FFN.ref_out _).trans ?_))
  unfold Cert.FFN.refOut
  rw [args_eq m m' c h0 h1 h2 h3 h4 h5 h6 h7]
  exact funext fun i => (Cert.FFN.kernel_out (weights m hpre c) i).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2⟩ := hagree c
  refine (h c).1.trans ((Cert.Adaln.ref_out _ _ _).trans ?_)
  rw [h0, h1, h2]
  exact (Cert.Adaln.kernel_out m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Pre_gate_bounded.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ,
  IdealRules.named_const.statement Cert.KernelIdeal.κ "gelu_cubic" .f32 0x3D122279#32 ((80338380498831 / 2251799813685248 : ℝ) : EReal) rfl,
  algebraic_KernelIdeal_ReferenceIdeal,
  (trivial : preserves_Kernel2_Kernel2Ideal), algebraic_Kernel2Ideal_Reference2Ideal,
  (trivial : preserves_Kernel3_Kernel3Ideal)⟩

end Cert.Proof

end
